-- ==== Defs.lean ====
def Pre_Kernel [hPre_groups_in_range : Cert.Pre_groups_in_range.Facts] (m : (ℓ : Loc Cert.Kernel.nD Cert.Kernel.τ Cert.Kernel.sig) → Buf (Elt Bits) ℓ) : Prop :=
  ∀ c : Dev Cert.Kernel.nD,
    (Cert.Pre_groups_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_in_range : Cert.Pre_groups_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S288x2x128 Cert.KernelIdeal.S288x1x128
  ∧ IdealRules.bf16_pair.BufferStatement Cert.KernelIdeal.S2080x2x128 Cert.KernelIdeal.S2080x1x128
  ∧ IdealRules.bf16_pair.PackStatement Cert.KernelIdeal.S18x1024
  ∧ IdealRules.bf16_pair.Statement Cert.KernelIdeal.S18x2x128 Cert.KernelIdeal.S18x1x128
  ∧ IdealRules.bf16_pair.Statement Cert.KernelIdeal.S8x2x128 Cert.KernelIdeal.S8x1x128
  ∧ IdealRules.bf16_pair.Statement Cert.KernelIdeal.S128x2x128 Cert.KernelIdeal.S128x1x128
  ∧ IdealRules.bf16_pair.Statement Cert.KernelIdeal.S256x128 Cert.KernelIdeal.S128x128
  ∧ IdealRules.bf16_pair.PackStatement Cert.KernelIdeal.S128x128

def algebraic_KernelIdeal_ReferenceIdeal [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel) (hPre_groups_in_range := hPre_groups_in_range)
    ∧ quiescent_KernelIdeal (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal (hKernelIdeal := hKernelIdeal) (hReferenceIdeal := hReferenceIdeal) (hPre_groups_in_range := hPre_groups_in_range)
-- ==== Pre_groups_in_range.lean ====
abbrev S256x1x4608 : Shape := ⟨3, ![256, 1, 4608]⟩
abbrev S576x18432 : Shape := ⟨2, ![576, 18432]⟩
abbrev S36x18432 : Shape := ⟨2, ![36, 18432]⟩
abbrev S18x18432 : Shape := ⟨2, ![18, 18432]⟩
abbrev S4608 : Shape := ⟨1, ![4608]⟩
abbrev S_ : Shape := ⟨0, ![]⟩

class Facts : Prop where
  bcast_S_S4608 : S_.BroadcastsInDim S4608 (![] : Fin 0 → Fin S4608.rank)
  reducesTo_S4608_S_d0 : S4608.ReducesTo [0] S_
  h_S_ : 0 < S_.numel

variable [Facts]

def fn {F : FTy → Type} [FloatOps F] (main_arg0 : FVec F S256x1x4608 .bf16) (main_arg1 : IVec S576x18432 32) (main_arg2 : FVec F S36x18432 .bf16) (main_arg3 : IVec S18x18432 8) (main_arg4 : IVec S4608 32) : IVec S_ 1 :=
  let main_c : IVec S_ 32 := constantI S_ 32 0#32
  let main_v0 : IVec S4608 32 := broadcastInDim S4608 ![] bcast_S_S4608 main_c
  let main_v1 : IVec S4608 1 := cmpi .sge main_arg4 main_v0
  let main_c_0 : IVec S_ 32 := constantI S_ 32 36#32
  let main_v2 : IVec S4608 32 := broadcastInDim S4608 ![] bcast_S_S4608 main_c_0
  let main_v3 : IVec S4608 1 := cmpi .slt main_arg4 main_v2
  let main_v4 : IVec S4608 1 := andi main_v1 main_v3
  let main_c_1 : IVec S_ 1 := constantI S_ 1 1#1
  let main_v5 : IVec S_ 1 := (fun x v => Host.reduce IntOp.andi x v reducesTo_S4608_S_d0 h_S_) main_v4 main_c_1
  main_v5
-- ==== Kernel.lean ====
abbrev S256x1x4608 : Shape := ⟨3, ![256, 1, 4608]⟩
abbrev S576x18432 : Shape := ⟨2, ![576, 18432]⟩
abbrev S36x18432 : Shape := ⟨2, ![36, 18432]⟩
abbrev S18x18432 : Shape := ⟨2, ![18, 18432]⟩
abbrev S4608 : Shape := ⟨1, ![4608]⟩
abbrev S256x4608 : Shape := ⟨2, ![256, 4608]⟩
abbrev S256x18432 : Shape := ⟨2, ![256, 18432]⟩
abbrev S576x1024 : Shape := ⟨2, ![576, 1024]⟩
abbrev S36x1024 : Shape := ⟨2, ![36, 1024]⟩
abbrev S18x1024 : Shape := ⟨2, ![18, 1024]⟩
abbrev S256x1024 : Shape := ⟨2, ![256, 1024]⟩
abbrev S288x128 : Shape := ⟨2, ![288, 128]⟩
abbrev S2080x128 : Shape := ⟨2, ![2080, 128]⟩
abbrev S18x128 : Shape := ⟨2, ![18, 128]⟩
abbrev S1 : Shape := ⟨1, ![1]⟩
abbrev S8x128 : Shape := ⟨2, ![8, 128]⟩
abbrev S32x128 : Shape := ⟨2, ![32, 128]⟩
abbrev S256x128 : Shape := ⟨2, ![256, 128]⟩
abbrev S32x1x128 : Shape := ⟨3, ![32, 1, 128]⟩
abbrev S32x8x128 : Shape := ⟨3, ![32, 8, 128]⟩
abbrev S128x128 : Shape := ⟨2, ![128, 128]⟩
abbrev S256x256 : Shape := ⟨2, ![256, 256]⟩

abbrev nBuf : Space → Nat
  | .hbm => 6
  | .vmem => 12
  | .smem => 1
  | _ => 0

abbrev bufTy : (tb : Table) → Fin (tcTables nBuf tb) → BufTy
  | .hbm, ⟨0, _⟩ => ⟨S256x1x4608, .bf16⟩
  | .hbm, ⟨1, _⟩ => ⟨S576x18432, .i32⟩
  | .hbm, ⟨2, _⟩ => ⟨S36x18432, .bf16⟩
  | .hbm, ⟨3, _⟩ => ⟨S18x18432, .i8⟩
  | .hbm, ⟨4, _⟩ => ⟨S256x4608, .bf16⟩
  | .hbm, ⟨5, _⟩ => ⟨S256x18432, .bf16⟩
  | .local _ .vmem, ⟨0, _⟩ => ⟨S256x4608, .bf16⟩
  | .local _ .vmem, ⟨1, _⟩ => ⟨S576x1024, .i32⟩
  | .local _ .vmem, ⟨2, _⟩ => ⟨S576x1024, .i32⟩
  | .local _ .vmem, ⟨3, _⟩ => ⟨S36x1024, .bf16⟩
  | .local _ .vmem, ⟨4, _⟩ => ⟨S36x1024, .bf16⟩
  | .local _ .vmem, ⟨5, _⟩ => ⟨S18x1024, .i8⟩
  | .local _ .vmem, ⟨6, _⟩ => ⟨S18x1024, .i8⟩
  | .local _ .vmem, ⟨7, _⟩ => ⟨S256x1024, .bf16⟩
  | .local _ .vmem, ⟨8, _⟩ => ⟨S256x1024, .bf16⟩
  | .local _ .vmem, ⟨9, _⟩ => ⟨S288x128, .i32⟩
  | .local _ .vmem, ⟨10, _⟩ => ⟨S2080x128, .i32⟩
  | .local _ .vmem, ⟨11, _⟩ => ⟨S256x1024, .f32⟩
  | .local _ .smem, ⟨0, _⟩ => ⟨S4608, .i32⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![18], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c18_i32 : BitVec 32 := 18#32
  let v82 : BitVec 32 := Scalar.addi c0_i32 c18_i32
  let c1_i32 : BitVec 32 := 1#32
  ⟨c0_i32, v82, c1_i32⟩
@[reducible] def k0_t2_loop : Scf.Loop 32 :=
  let c0_i32_28 : BitVec 32 := 0#32
  let c128_i32 : BitVec 32 := 128#32
  let v87 : BitVec 32 := Scalar.addi c0_i32_28 c128_i32
  let c1_i32_29 : BitVec 32 := 1#32
  ⟨c0_i32_28, v87, c1_i32_29⟩
def k0_off1 (k0_t1 : Fin k0_t1_loop.trips) (k0_t2 : Fin k0_t2_loop.trips) : Fin 1 → Nat :=
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  let c2_i32 : BitVec 32 := 2#32
  let c0_i32_28 : BitVec 32 := 0#32
  let c1_i32_29 : BitVec 32 := 1#32
  let arg11 : BitVec 32 := Scf.iv c0_i32_28 c1_i32_29 k0_t2
  let v371 : BitVec 32 := Scalar.muli c2_i32 arg11
  let v372 : BitVec 32 := Scalar.addi v86 v371
  let c0_i32_115 : BitVec 32 := 0#32
  let v373 : BitVec 32 := Scalar.addi v372 c0_i32_115
  let v374 : Index := Scalar.indexCast v373
  ![v374.toNat]
def k0_mult1 (v375 : BitVec 32) : BitVec 32 :=
  let c8_i32 : BitVec 32 := 8#32
  let v376 : BitVec 32 := Scalar.muli v375 c8_i32
  v376

def k0_off2 (v375 : BitVec 32) : Fin 2 → Nat :=
  let c8_i32 : BitVec 32 := 8#32
  let v376 : BitVec 32 := Scalar.muli v375 c8_i32
  let v377 : BitVec 32 := v376
  let v378 : Index := Scalar.indexCast v377
  let c0_116 : Index := 0#32
  ![v378.toNat, 0]

def k0_chk1 (v375 : BitVec 32) : Prop :=
  (8 ∣ (k0_mult1 v375).toNat) ∧
  (∀ a, (k0_off2 v375) a + S8x128.size a ≤ S288x128.size a)
theorem k0_mult1_dvd : ∀ (v375 : BitVec 32) (k0_hw1 : k0_chk1 v375), 8 ∣ (k0_mult1 v375).toNat := fun v375 k0_hw1 => k0_hw1.1
theorem k0_off2_inb : ∀ (v375 : BitVec 32) (k0_hw1 : k0_chk1 v375), ∀ a, (k0_off2 v375) a + S8x128.size a ≤ S288x128.size a := fun v375 k0_hw1 => k0_hw1.2

def k0_off3 (k0_t2 : Fin k0_t2_loop.trips) : Fin 2 → Nat :=
  let c0_i32_117 : BitVec 32 := 0#32
  let c0_i32_28 : BitVec 32 := 0#32
  let c1_i32_29 : BitVec 32 := 1#32
  let arg11 : BitVec 32 := Scf.iv c0_i32_28 c1_i32_29 k0_t2
  let v380 : BitVec 32 := Scalar.addi c0_i32_117 arg11
  let v381 : Index := Scalar.indexCast v380
  let c0_118 : Index := 0#32
  ![v381.toNat, 0]
def k0_off4 (k0_t1 : Fin k0_t1_loop.trips) (k0_t2 : Fin k0_t2_loop.trips) : Fin 1 → Nat :=
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  let c2_i32_119 : BitVec 32 := 2#32
  let c0_i32_28 : BitVec 32 := 0#32
  let c1_i32_29 : BitVec 32 := 1#32
  let arg11 : BitVec 32 := Scf.iv c0_i32_28 c1_i32_29 k0_t2
  let v385 : BitVec 32 := Scalar.muli c2_i32_119 arg11
  let v386 : BitVec 32 := Scalar.addi v86 v385
  let c1_i32_120 : BitVec 32 := 1#32
  let v387 : BitVec 32 := Scalar.addi v386 c1_i32_120
  let v388 : Index := Scalar.indexCast v387
  ![v388.toNat]
def k0_mult2 (v389 : BitVec 32) : BitVec 32 :=
  let c8_i32_121 : BitVec 32 := 8#32
  let v390 : BitVec 32 := Scalar.muli v389 c8_i32_121
  v390

def k0_off5 (v389 : BitVec 32) : Fin 2 → Nat :=
  let c8_i32_121 : BitVec 32 := 8#32
  let v390 : BitVec 32 := Scalar.muli v389 c8_i32_121
  let v391 : BitVec 32 := v390
  let v392 : Index := Scalar.indexCast v391
  let c0_122 : Index := 0#32
  ![v392.toNat, 0]

def k0_chk2 (v389 : BitVec 32) : Prop :=
  (8 ∣ (k0_mult2 v389).toNat) ∧
  (∀ a, (k0_off5 v389) a + S8x128.size a ≤ S288x128.size a)
theorem k0_mult2_dvd : ∀ (v389 : BitVec 32) (k0_hw2 : k0_chk2 v389), 8 ∣ (k0_mult2 v389).toNat := fun v389 k0_hw2 => k0_hw2.1
theorem k0_off5_inb : ∀ (v389 : BitVec 32) (k0_hw2 : k0_chk2 v389), ∀ a, (k0_off5 v389) a + S8x128.size a ≤ S288x128.size a := fun v389 k0_hw2 => k0_hw2.2

def k0_off6 (k0_t2 : Fin k0_t2_loop.trips) : Fin 2 → Nat :=
  let c128_i32_123 : BitVec 32 := 128#32
  let c0_i32_28 : BitVec 32 := 0#32
  let c1_i32_29 : BitVec 32 := 1#32
  let arg11 : BitVec 32 := Scf.iv c0_i32_28 c1_i32_29 k0_t2
  let v394 : BitVec 32 := Scalar.addi c128_i32_123 arg11
  let v395 : Index := Scalar.indexCast v394
  let c0_124 : Index := 0#32
  ![v395.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v88 : BitVec 32 := Scalar.muli arg10 c32_i32
  v88
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v88 : BitVec 32 := Scalar.muli arg10 c32_i32
  let v89 : BitVec 32 := v88
  let v90 : Index := Scalar.indexCast v89
  let c0_31 : Index := 0#32
  ![v90.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_38 : BitVec 32 := 32#32
  let v122 : BitVec 32 := Scalar.muli arg10 c32_i32_38
  v122
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_38 : BitVec 32 := 32#32
  let v122 : BitVec 32 := Scalar.muli arg10 c32_i32_38
  let v123 : BitVec 32 := v122
  let v124 : Index := Scalar.indexCast v123
  let c128_39 : Index := 128#32
  ![v124.toNat, 128]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_49 : BitVec 32 := 32#32
  let v156 : BitVec 32 := Scalar.muli arg10 c32_i32_49
  v156
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_49 : BitVec 32 := 32#32
  let v156 : BitVec 32 := Scalar.muli arg10 c32_i32_49
  let v157 : BitVec 32 := v156
  let v158 : Index := Scalar.indexCast v157
  let c256 : Index := 256#32
  ![v158.toNat, 256]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_59 : BitVec 32 := 32#32
  let v190 : BitVec 32 := Scalar.muli arg10 c32_i32_59
  v190
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_59 : BitVec 32 := 32#32
  let v190 : BitVec 32 := Scalar.muli arg10 c32_i32_59
  let v191 : BitVec 32 := v190
  let v192 : Index := Scalar.indexCast v191
  let c384 : Index := 384#32
  ![v192.toNat, 384]
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_69 : BitVec 32 := 32#32
  let v224 : BitVec 32 := Scalar.muli arg10 c32_i32_69
  v224
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_69 : BitVec 32 := 32#32
  let v224 : BitVec 32 := Scalar.muli arg10 c32_i32_69
  let v225 : BitVec 32 := v224
  let v226 : Index := Scalar.indexCast v225
  let c512 : Index := 512#32
  ![v226.toNat, 512]
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_79 : BitVec 32 := 32#32
  let v258 : BitVec 32 := Scalar.muli arg10 c32_i32_79
  v258
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_79 : BitVec 32 := 32#32
  let v258 : BitVec 32 := Scalar.muli arg10 c32_i32_79
  let v259 : BitVec 32 := v258
  let v260 : Index := Scalar.indexCast v259
  let c640 : Index := 640#32
  ![v260.toNat, 640]
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_89 : BitVec 32 := 32#32
  let v292 : BitVec 32 := Scalar.muli arg10 c32_i32_89
  v292
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_89 : BitVec 32 := 32#32
  let v292 : BitVec 32 := Scalar.muli arg10 c32_i32_89
  let v293 : BitVec 32 := v292
  let v294 : Index := Scalar.indexCast v293
  let c768 : Index := 768#32
  ![v294.toNat, 768]
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_99 : BitVec 32 := 32#32
  let v326 : BitVec 32 := Scalar.muli arg10 c32_i32_99
  v326
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_99 : BitVec 32 := 32#32
  let v326 : BitVec 32 := Scalar.muli arg10 c32_i32_99
  let v327 : BitVec 32 := v326
  let v328 : Index := Scalar.indexCast v327
  let c896 : Index := 896#32
  ![v328.toNat, 896]
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  v86
def k0_off15 (k0_t1 : Fin k0_t1_loop.trips) : Fin 2 → Nat :=
  let c0_111 : Index := 0#32
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  let v362 : BitVec 32 := v86
  let v363 : Index := Scalar.indexCast v362
  ![0, v363.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S576x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S36x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S256x1x4608 : Shape := ⟨3, ![256, 1, 4608]⟩
abbrev S576x18432 : Shape := ⟨2, ![576, 18432]⟩
abbrev S36x18432 : Shape := ⟨2, ![36, 18432]⟩
abbrev S18x18432 : Shape := ⟨2, ![18, 18432]⟩
abbrev S4608 : Shape := ⟨1, ![4608]⟩
abbrev S256x4608 : Shape := ⟨2, ![256, 4608]⟩
abbrev S256x18432 : Shape := ⟨2, ![256, 18432]⟩
abbrev S576x1024 : Shape := ⟨2, ![576, 1024]⟩
abbrev S36x1024 : Shape := ⟨2, ![36, 1024]⟩
abbrev S18x1024 : Shape := ⟨2, ![18, 1024]⟩
abbrev S256x1024 : Shape := ⟨2, ![256, 1024]⟩
abbrev S288x128 : Shape := ⟨2, ![288, 128]⟩
abbrev S288x2x128 : Shape := ⟨3, ![288, 2, 128]⟩
abbrev S288x1x128 : Shape := ⟨3, ![288, 1, 128]⟩
abbrev S2080x128 : Shape := ⟨2, ![2080, 128]⟩
abbrev S2080x2x128 : Shape := ⟨3, ![2080, 2, 128]⟩
abbrev S2080x1x128 : Shape := ⟨3, ![2080, 1, 128]⟩
abbrev S18x128 : Shape := ⟨2, ![18, 128]⟩
abbrev S18x2x128 : Shape := ⟨3, ![18, 2, 128]⟩
abbrev S18x1x128 : Shape := ⟨3, ![18, 1, 128]⟩
abbrev S1 : Shape := ⟨1, ![1]⟩
abbrev S8x128 : Shape := ⟨2, ![8, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S32x1x128 : Shape := ⟨3, ![32, 1, 128]⟩
abbrev S32x8x128 : Shape := ⟨3, ![32, 8, 128]⟩
abbrev S128x128 : Shape := ⟨2, ![128, 128]⟩
abbrev S128x2x128 : Shape := ⟨3, ![128, 2, 128]⟩
abbrev S128x1x128 : Shape := ⟨3, ![128, 1, 128]⟩
abbrev S256x256 : Shape := ⟨2, ![256, 256]⟩

abbrev nBuf : Space → Nat
  | .hbm => 6
  | .vmem => 12
  | .smem => 1
  | _ => 0

abbrev bufTy : (tb : Table) → Fin (tcTables nBuf tb) → BufTy
  | .hbm, ⟨0, _⟩ => ⟨S256x1x4608, .bf16⟩
  | .hbm, ⟨1, _⟩ => ⟨S576x18432, .i32⟩
  | .hbm, ⟨2, _⟩ => ⟨S36x18432, .bf16⟩
  | .hbm, ⟨3, _⟩ => ⟨S18x18432, .i8⟩
  | .hbm, ⟨4, _⟩ => ⟨S256x4608, .bf16⟩
  | .hbm, ⟨5, _⟩ => ⟨S256x18432, .bf16⟩
  | .local _ .vmem, ⟨0, _⟩ => ⟨S256x4608, .bf16⟩
  | .local _ .vmem, ⟨1, _⟩ => ⟨S576x1024, .i32⟩
  | .local _ .vmem, ⟨2, _⟩ => ⟨S576x1024, .i32⟩
  | .local _ .vmem, ⟨3, _⟩ => ⟨S36x1024, .bf16⟩
  | .local _ .vmem, ⟨4, _⟩ => ⟨S36x1024, .bf16⟩
  | .local _ .vmem, ⟨5, _⟩ => ⟨S18x1024, .i8⟩
  | .local _ .vmem, ⟨6, _⟩ => ⟨S18x1024, .i8⟩
  | .local _ .vmem, ⟨7, _⟩ => ⟨S256x1024, .bf16⟩
  | .local _ .vmem, ⟨8, _⟩ => ⟨S256x1024, .bf16⟩
  | .local _ .vmem, ⟨9, _⟩ => ⟨S288x2x128, .bf16⟩
  | .local _ .vmem, ⟨10, _⟩ => ⟨S2080x2x128, .bf16⟩
  | .local _ .vmem, ⟨11, _⟩ => ⟨S256x1024, .f32⟩
  | .local _ .smem, ⟨0, _⟩ => ⟨S4608, .i32⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c18_i32 : BitVec 32 := 18#32
  let v82 : BitVec 32 := Scalar.addi c0_i32 c18_i32
  let c1_i32 : BitVec 32 := 1#32
  ⟨c0_i32, v82, c1_i32⟩
@[reducible] def k0_t2_loop : Scf.Loop 32 :=
  let c0_i32_28 : BitVec 32 := 0#32
  let c128_i32 : BitVec 32 := 128#32
  let v87 : BitVec 32 := Scalar.addi c0_i32_28 c128_i32
  let c1_i32_29 : BitVec 32 := 1#32
  ⟨c0_i32_28, v87, c1_i32_29⟩
def k0_off1 (k0_t1 : Fin k0_t1_loop.trips) (k0_t2 : Fin k0_t2_loop.trips) : Fin 1 → Nat :=
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  let c2_i32 : BitVec 32 := 2#32
  let c0_i32_28 : BitVec 32 := 0#32
  let c1_i32_29 : BitVec 32 := 1#32
  let arg11 : BitVec 32 := Scf.iv c0_i32_28 c1_i32_29 k0_t2
  let v371 : BitVec 32 := Scalar.muli c2_i32 arg11
  let v372 : BitVec 32 := Scalar.addi v86 v371
  let c0_i32_115 : BitVec 32 := 0#32
  let v373 : BitVec 32 := Scalar.addi v372 c0_i32_115
  let v374 : Index := Scalar.indexCast v373
  ![v374.toNat]
def k0_mult1 (v375 : BitVec 32) : BitVec 32 :=
  let c8_i32 : BitVec 32 := 8#32
  let v376 : BitVec 32 := Scalar.muli v375 c8_i32
  v376

def k0_off2 (v375 : BitVec 32) : Fin 3 → Nat :=
  let c8_i32 : BitVec 32 := 8#32
  let v376 : BitVec 32 := Scalar.muli v375 c8_i32
  let v377 : BitVec 32 := v376
  let v378 : Index := Scalar.indexCast v377
  let c0_116 : Index := 0#32
  ![v378.toNat, 0, 0]

def k0_chk1 (v375 : BitVec 32) : Prop :=
  (8 ∣ (k0_mult1 v375).toNat) ∧
  (∀ a, (k0_off2 v375) a + S8x2x128.size a ≤ S288x2x128.size a)
theorem k0_mult1_dvd : ∀ (v375 : BitVec 32) (k0_hw1 : k0_chk1 v375), 8 ∣ (k0_mult1 v375).toNat := fun v375 k0_hw1 => k0_hw1.1
theorem k0_off2_inb : ∀ (v375 : BitVec 32) (k0_hw1 : k0_chk1 v375), ∀ a, (k0_off2 v375) a + S8x2x128.size a ≤ S288x2x128.size a := fun v375 k0_hw1 => k0_hw1.2

def k0_off3 (k0_t2 : Fin k0_t2_loop.trips) : Fin 3 → Nat :=
  let c0_i32_117 : BitVec 32 := 0#32
  let c0_i32_28 : BitVec 32 := 0#32
  let c1_i32_29 : BitVec 32 := 1#32
  let arg11 : BitVec 32 := Scf.iv c0_i32_28 c1_i32_29 k0_t2
  let v380 : BitVec 32 := Scalar.addi c0_i32_117 arg11
  let v381 : Index := Scalar.indexCast v380
  let c0_118 : Index := 0#32
  ![v381.toNat, 0, 0]
def k0_off4 (k0_t1 : Fin k0_t1_loop.trips) (k0_t2 : Fin k0_t2_loop.trips) : Fin 1 → Nat :=
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  let c2_i32_119 : BitVec 32 := 2#32
  let c0_i32_28 : BitVec 32 := 0#32
  let c1_i32_29 : BitVec 32 := 1#32
  let arg11 : BitVec 32 := Scf.iv c0_i32_28 c1_i32_29 k0_t2
  let v385 : BitVec 32 := Scalar.muli c2_i32_119 arg11
  let v386 : BitVec 32 := Scalar.addi v86 v385
  let c1_i32_120 : BitVec 32 := 1#32
  let v387 : BitVec 32 := Scalar.addi v386 c1_i32_120
  let v388 : Index := Scalar.indexCast v387
  ![v388.toNat]
def k0_mult2 (v389 : BitVec 32) : BitVec 32 :=
  let c8_i32_121 : BitVec 32 := 8#32
  let v390 : BitVec 32 := Scalar.muli v389 c8_i32_121
  v390

def k0_off5 (v389 : BitVec 32) : Fin 3 → Nat :=
  let c8_i32_121 : BitVec 32 := 8#32
  let v390 : BitVec 32 := Scalar.muli v389 c8_i32_121
  let v391 : BitVec 32 := v390
  let v392 : Index := Scalar.indexCast v391
  let c0_122 : Index := 0#32
  ![v392.toNat, 0, 0]

def k0_chk2 (v389 : BitVec 32) : Prop :=
  (8 ∣ (k0_mult2 v389).toNat) ∧
  (∀ a, (k0_off5 v389) a + S8x2x128.size a ≤ S288x2x128.size a)
theorem k0_mult2_dvd : ∀ (v389 : BitVec 32) (k0_hw2 : k0_chk2 v389), 8 ∣ (k0_mult2 v389).toNat := fun v389 k0_hw2 => k0_hw2.1
theorem k0_off5_inb : ∀ (v389 : BitVec 32) (k0_hw2 : k0_chk2 v389), ∀ a, (k0_off5 v389) a + S8x2x128.size a ≤ S288x2x128.size a := fun v389 k0_hw2 => k0_hw2.2

def k0_off6 (k0_t2 : Fin k0_t2_loop.trips) : Fin 3 → Nat :=
  let c128_i32_123 : BitVec 32 := 128#32
  let c0_i32_28 : BitVec 32 := 0#32
  let c1_i32_29 : BitVec 32 := 1#32
  let arg11 : BitVec 32 := Scf.iv c0_i32_28 c1_i32_29 k0_t2
  let v394 : BitVec 32 := Scalar.addi c128_i32_123 arg11
  let v395 : Index := Scalar.indexCast v394
  let c0_124 : Index := 0#32
  ![v395.toNat, 0, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v88 : BitVec 32 := Scalar.muli arg10 c32_i32
  v88
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v88 : BitVec 32 := Scalar.muli arg10 c32_i32
  let v89 : BitVec 32 := v88
  let v90 : Index := Scalar.indexCast v89
  let c0_31 : Index := 0#32
  ![v90.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_38 : BitVec 32 := 32#32
  let v122 : BitVec 32 := Scalar.muli arg10 c32_i32_38
  v122
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_38 : BitVec 32 := 32#32
  let v122 : BitVec 32 := Scalar.muli arg10 c32_i32_38
  let v123 : BitVec 32 := v122
  let v124 : Index := Scalar.indexCast v123
  let c128_39 : Index := 128#32
  ![v124.toNat, 128]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_49 : BitVec 32 := 32#32
  let v156 : BitVec 32 := Scalar.muli arg10 c32_i32_49
  v156
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_49 : BitVec 32 := 32#32
  let v156 : BitVec 32 := Scalar.muli arg10 c32_i32_49
  let v157 : BitVec 32 := v156
  let v158 : Index := Scalar.indexCast v157
  let c256 : Index := 256#32
  ![v158.toNat, 256]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_59 : BitVec 32 := 32#32
  let v190 : BitVec 32 := Scalar.muli arg10 c32_i32_59
  v190
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_59 : BitVec 32 := 32#32
  let v190 : BitVec 32 := Scalar.muli arg10 c32_i32_59
  let v191 : BitVec 32 := v190
  let v192 : Index := Scalar.indexCast v191
  let c384 : Index := 384#32
  ![v192.toNat, 384]
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_69 : BitVec 32 := 32#32
  let v224 : BitVec 32 := Scalar.muli arg10 c32_i32_69
  v224
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_69 : BitVec 32 := 32#32
  let v224 : BitVec 32 := Scalar.muli arg10 c32_i32_69
  let v225 : BitVec 32 := v224
  let v226 : Index := Scalar.indexCast v225
  let c512 : Index := 512#32
  ![v226.toNat, 512]
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_79 : BitVec 32 := 32#32
  let v258 : BitVec 32 := Scalar.muli arg10 c32_i32_79
  v258
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_79 : BitVec 32 := 32#32
  let v258 : BitVec 32 := Scalar.muli arg10 c32_i32_79
  let v259 : BitVec 32 := v258
  let v260 : Index := Scalar.indexCast v259
  let c640 : Index := 640#32
  ![v260.toNat, 640]
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_89 : BitVec 32 := 32#32
  let v292 : BitVec 32 := Scalar.muli arg10 c32_i32_89
  v292
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_89 : BitVec 32 := 32#32
  let v292 : BitVec 32 := Scalar.muli arg10 c32_i32_89
  let v293 : BitVec 32 := v292
  let v294 : Index := Scalar.indexCast v293
  let c768 : Index := 768#32
  ![v294.toNat, 768]
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_99 : BitVec 32 := 32#32
  let v326 : BitVec 32 := Scalar.muli arg10 c32_i32_99
  v326
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_99 : BitVec 32 := 32#32
  let v326 : BitVec 32 := Scalar.muli arg10 c32_i32_99
  let v327 : BitVec 32 := v326
  let v328 : Index := Scalar.indexCast v327
  let c896 : Index := 896#32
  ![v328.toNat, 896]
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  v86
def k0_off15 (k0_t1 : Fin k0_t1_loop.trips) : Fin 2 → Nat :=
  let c0_111 : Index := 0#32
  let c0_i32 : BitVec 32 := 0#32
  let c1_i32 : BitVec 32 := 1#32
  let arg10 : BitVec 32 := Scf.iv c0_i32 c1_i32 k0_t1
  let c256_i32 : BitVec 32 := 256#32
  let v86 : BitVec 32 := Scalar.muli arg10 c256_i32
  let v362 : BitVec 32 := v86
  let v363 : Index := Scalar.indexCast v362
  ![0, v363.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S576x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S36x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x1x4608 : Shape := ⟨3, ![256, 1, 4608]⟩
abbrev S576x18432 : Shape := ⟨2, ![576, 18432]⟩
abbrev S36x18432 : Shape := ⟨2, ![36, 18432]⟩
abbrev S18x18432 : Shape := ⟨2, ![18, 18432]⟩
abbrev S4608 : Shape := ⟨1, ![4608]⟩
abbrev S_ : Shape := ⟨0, ![]⟩
abbrev S576 : Shape := ⟨1, ![576]⟩
abbrev S576x1 : Shape := ⟨2, ![576, 1]⟩
abbrev S256x1x576 : Shape := ⟨3, ![256, 1, 576]⟩
abbrev S256x1x18432 : Shape := ⟨3, ![256, 1, 18432]⟩
abbrev S256x18432 : Shape := ⟨2, ![256, 18432]⟩

abbrev nBuf : Space → Nat
  | .hbm => 270
  | .vmem => 0
  | .smem => 0
  | _ => 0

abbrev hbmTy0_0 (i : Nat) : BufTy := match i % 128 with
  | 0 => ⟨S256x1x4608, .bf16⟩
  | 1 => ⟨S576x18432, .i32⟩
  | 2 => ⟨S36x18432, .bf16⟩
  | 3 => ⟨S18x18432, .i8⟩
  | 4 => ⟨S4608, .i32⟩
  | 5 => ⟨S18x18432, .i32⟩
  | 6 => ⟨S_, .i32⟩
  | 7 => ⟨S18x18432, .i32⟩
  | 8 => ⟨S18x18432, .i32⟩
  | 9 => ⟨S_, .i32⟩
  | 10 => ⟨S18x18432, .i32⟩
  | 11 => ⟨S18x18432, .i32⟩
  | 12 => ⟨S36x18432, .i32⟩
  | 13 => ⟨S_, .i32⟩
  | 14 => ⟨S576x18432, .i32⟩
  | 15 => ⟨S576x18432, .i32⟩
  | 16 => ⟨S_, .i32⟩
  | 17 => ⟨S576x18432, .i32⟩
  | 18 => ⟨S576x18432, .i32⟩
  | 19 => ⟨S576x18432, .bf16⟩
  | 20 => ⟨S576, .i32⟩
  | 21 => ⟨S_, .i32⟩
  | 22 => ⟨S576, .i32⟩
  | 23 => ⟨S576, .i1⟩
  | 24 => ⟨S_, .i32⟩
  | 25 => ⟨S576, .i32⟩
  | 26 => ⟨S576, .i32⟩
  | 27 => ⟨S576, .i32⟩
  | 28 => ⟨S576x1, .i32⟩
  | 29 => ⟨S576x18432, .i32⟩
  | 30 => ⟨S576x18432, .bf16⟩
  | 31 => ⟨S576x18432, .bf16⟩
  | 32 => ⟨S_, .i32⟩
  | 33 => ⟨S576, .i32⟩
  | 34 => ⟨S576, .i1⟩
  | 35 => ⟨S_, .i32⟩
  | 36 => ⟨S576, .i32⟩
  | 37 => ⟨S576, .i32⟩
  | 38 => ⟨S576, .i32⟩
  | 39 => ⟨S576x1, .i32⟩
  | 40 => ⟨S576x18432, .bf16⟩
  | 41 => ⟨S576x18432, .bf16⟩
  | 42 => ⟨S256x1x576, .bf16⟩
  | 43 => ⟨S256x1x18432, .f32⟩
  | 44 => ⟨S_, .i32⟩
  | 45 => ⟨S576x18432, .i32⟩
  | 46 => ⟨S576x18432, .i32⟩
  | 47 => ⟨S_, .i32⟩
  | 48 => ⟨S576x18432, .i32⟩
  | 49 => ⟨S576x18432, .i32⟩
  | 50 => ⟨S576x18432, .bf16⟩
  | 51 => ⟨S576, .i32⟩
  | 52 => ⟨S_, .i32⟩
  | 53 => ⟨S576, .i32⟩
  | 54 => ⟨S576, .i1⟩
  | 55 => ⟨S_, .i32⟩
  | 56 => ⟨S576, .i32⟩
  | 57 => ⟨S576, .i32⟩
  | 58 => ⟨S576, .i32⟩
  | 59 => ⟨S576x1, .i32⟩
  | 60 => ⟨S576x18432, .i32⟩
  | 61 => ⟨S576x18432, .bf16⟩
  | 62 => ⟨S576x18432, .bf16⟩
  | 63 => ⟨S_, .i32⟩
  | 64 => ⟨S576, .i32⟩
  | 65 => ⟨S576, .i1⟩
  | 66 => ⟨S_, .i32⟩
  | 67 => ⟨S576, .i32⟩
  | 68 => ⟨S576, .i32⟩
  | 69 => ⟨S576, .i32⟩
  | 70 => ⟨S576x1, .i32⟩
  | 71 => ⟨S576x18432, .bf16⟩
  | 72 => ⟨S576x18432, .bf16⟩
  | 73 => ⟨S256x1x576, .bf16⟩
  | 74 => ⟨S256x1x18432, .f32⟩
  | 75 => ⟨S256x1x18432, .f32⟩
  | 76 => ⟨S_, .i32⟩
  | 77 => ⟨S576x18432, .i32⟩
  | 78 => ⟨S576x18432, .i32⟩
  | 79 => ⟨S_, .i32⟩
  | 80 => ⟨S576x18432, .i32⟩
  | 81 => ⟨S576x18432, .i32⟩
  | 82 => ⟨S576x18432, .bf16⟩
  | 83 => ⟨S576, .i32⟩
  | 84 => ⟨S_, .i32⟩
  | 85 => ⟨S576, .i32⟩
  | 86 => ⟨S576, .i1⟩
  | 87 => ⟨S_, .i32⟩
  | 88 => ⟨S576, .i32⟩
  | 89 => ⟨S576, .i32⟩
  | 90 => ⟨S576, .i32⟩
  | 91 => ⟨S576x1, .i32⟩
  | 92 => ⟨S576x18432, .i32⟩
  | 93 => ⟨S576x18432, .bf16⟩
  | 94 => ⟨S576x18432, .bf16⟩
  | 95 => ⟨S_, .i32⟩
  | 96 => ⟨S576, .i32⟩
  | 97 => ⟨S576, .i1⟩
  | 98 => ⟨S_, .i32⟩
  | 99 => ⟨S576, .i32⟩
  | 100 => ⟨S576, .i32⟩
  | 101 => ⟨S576, .i32⟩
  | 102 => ⟨S576x1, .i32⟩
  | 103 => ⟨S576x18432, .bf16⟩
  | 104 => ⟨S576x18432, .bf16⟩
  | 105 => ⟨S256x1x576, .bf16⟩
  | 106 => ⟨S256x1x18432, .f32⟩
  | 107 => ⟨S256x1x18432, .f32⟩
  | 108 => ⟨S_, .i32⟩
  | 109 => ⟨S576x18432, .i32⟩
  | 110 => ⟨S576x18432, .i32⟩
  | 111 => ⟨S_, .i32⟩
  | 112 => ⟨S576x18432, .i32⟩
  | 113 => ⟨S576x18432, .i32⟩
  | 114 => ⟨S576x18432, .bf16⟩
  | 115 => ⟨S576, .i32⟩
  | 116 => ⟨S_, .i32⟩
  | 117 => ⟨S576, .i32⟩
  | 118 => ⟨S576, .i1⟩
  | 119 => ⟨S_, .i32⟩
  | 120 => ⟨S576, .i32⟩
  | 121 => ⟨S576, .i32⟩
  | 122 => ⟨S576, .i32⟩
  | 123 => ⟨S576x1, .i32⟩
  | 124 => ⟨S576x18432, .i32⟩
  | 125 => ⟨S576x18432, .bf16⟩
  | 126 => ⟨S576x18432, .bf16⟩
  | 127 => ⟨S_, .i32⟩
  | _ => ⟨S256x1x4608, .bf16⟩

abbrev hbmTy0_1 (i : Nat) : BufTy := match i % 128 with
  | 0 => ⟨S576, .i32⟩
  | 1 => ⟨S576, .i1⟩
  | 2 => ⟨S_, .i32⟩
  | 3 => ⟨S576, .i32⟩
  | 4 => ⟨S576, .i32⟩
  | 5 => ⟨S576, .i32⟩
  | 6 => ⟨S576x1, .i32⟩
  | 7 => ⟨S576x18432, .bf16⟩
  | 8 => ⟨S576x18432, .bf16⟩
  | 9 => ⟨S256x1x576, .bf16⟩
  | 10 => ⟨S256x1x18432, .f32⟩
  | 11 => ⟨S256x1x18432, .f32⟩
  | 12 => ⟨S_, .i32⟩
  | 13 => ⟨S576x18432, .i32⟩
  | 14 => ⟨S576x18432, .i32⟩
  | 15 => ⟨S_, .i32⟩
  | 16 => ⟨S576x18432, .i32⟩
  | 17 => ⟨S576x18432, .i32⟩
  | 18 => ⟨S576x18432, .bf16⟩
  | 19 => ⟨S576, .i32⟩
  | 20 => ⟨S_, .i32⟩
  | 21 => ⟨S576, .i32⟩
  | 22 => ⟨S576, .i1⟩
  | 23 => ⟨S_, .i32⟩
  | 24 => ⟨S576, .i32⟩
  | 25 => ⟨S576, .i32⟩
  | 26 => ⟨S576, .i32⟩
  | 27 => ⟨S576x1, .i32⟩
  | 28 => ⟨S576x18432, .i32⟩
  | 29 => ⟨S576x18432, .bf16⟩
  | 30 => ⟨S576x18432, .bf16⟩
  | 31 => ⟨S_, .i32⟩
  | 32 => ⟨S576, .i32⟩
  | 33 => ⟨S576, .i1⟩
  | 34 => ⟨S_, .i32⟩
  | 35 => ⟨S576, .i32⟩
  | 36 => ⟨S576, .i32⟩
  | 37 => ⟨S576, .i32⟩
  | 38 => ⟨S576x1, .i32⟩
  | 39 => ⟨S576x18432, .bf16⟩
  | 40 => ⟨S576x18432, .bf16⟩
  | 41 => ⟨S256x1x576, .bf16⟩
  | 42 => ⟨S256x1x18432, .f32⟩
  | 43 => ⟨S256x1x18432, .f32⟩
  | 44 => ⟨S_, .i32⟩
  | 45 => ⟨S576x18432, .i32⟩
  | 46 => ⟨S576x18432, .i32⟩
  | 47 => ⟨S_, .i32⟩
  | 48 => ⟨S576x18432, .i32⟩
  | 49 => ⟨S576x18432, .i32⟩
  | 50 => ⟨S576x18432, .bf16⟩
  | 51 => ⟨S576, .i32⟩
  | 52 => ⟨S_, .i32⟩
  | 53 => ⟨S576, .i32⟩
  | 54 => ⟨S576, .i1⟩
  | 55 => ⟨S_, .i32⟩
  | 56 => ⟨S576, .i32⟩
  | 57 => ⟨S576, .i32⟩
  | 58 => ⟨S576, .i32⟩
  | 59 => ⟨S576x1, .i32⟩
  | 60 => ⟨S576x18432, .i32⟩
  | 61 => ⟨S576x18432, .bf16⟩
  | 62 => ⟨S576x18432, .bf16⟩
  | 63 => ⟨S_, .i32⟩
  | 64 => ⟨S576, .i32⟩
  | 65 => ⟨S576, .i1⟩
  | 66 => ⟨S_, .i32⟩
  | 67 => ⟨S576, .i32⟩
  | 68 => ⟨S576, .i32⟩
  | 69 => ⟨S576, .i32⟩
  | 70 => ⟨S576x1, .i32⟩
  | 71 => ⟨S576x18432, .bf16⟩
  | 72 => ⟨S576x18432, .bf16⟩
  | 73 => ⟨S256x1x576, .bf16⟩
  | 74 => ⟨S256x1x18432, .f32⟩
  | 75 => ⟨S256x1x18432, .f32⟩
  | 76 => ⟨S_, .i32⟩
  | 77 => ⟨S576x18432, .i32⟩
  | 78 => ⟨S576x18432, .i32⟩
  | 79 => ⟨S_, .i32⟩
  | 80 => ⟨S576x18432, .i32⟩
  | 81 => ⟨S576x18432, .i32⟩
  | 82 => ⟨S576x18432, .bf16⟩
  | 83 => ⟨S576, .i32⟩
  | 84 => ⟨S_, .i32⟩
  | 85 => ⟨S576, .i32⟩
  | 86 => ⟨S576, .i1⟩
  | 87 => ⟨S_, .i32⟩
  | 88 => ⟨S576, .i32⟩
  | 89 => ⟨S576, .i32⟩
  | 90 => ⟨S576, .i32⟩
  | 91 => ⟨S576x1, .i32⟩
  | 92 => ⟨S576x18432, .i32⟩
  | 93 => ⟨S576x18432, .bf16⟩
  | 94 => ⟨S576x18432, .bf16⟩
  | 95 => ⟨S_, .i32⟩
  | 96 => ⟨S576, .i32⟩
  | 97 => ⟨S576, .i1⟩
  | 98 => ⟨S_, .i32⟩
  | 99 => ⟨S576, .i32⟩
  | 100 => ⟨S576, .i32⟩
  | 101 => ⟨S576, .i32⟩
  | 102 => ⟨S576x1, .i32⟩
  | 103 => ⟨S576x18432, .bf16⟩
  | 104 => ⟨S576x18432, .bf16⟩
  | 105 => ⟨S256x1x576, .bf16⟩
  | 106 => ⟨S256x1x18432, .f32⟩
  | 107 => ⟨S256x1x18432, .f32⟩
  | 108 => ⟨S_, .i32⟩
  | 109 => ⟨S576x18432, .i32⟩
  | 110 => ⟨S576x18432, .i32⟩
  | 111 => ⟨S_, .i32⟩
  | 112 => ⟨S576x18432, .i32⟩
  | 113 => ⟨S576x18432, .i32⟩
  | 114 => ⟨S576x18432, .bf16⟩
  | 115 => ⟨S576, .i32⟩
  | 116 => ⟨S_, .i32⟩
  | 117 => ⟨S576, .i32⟩
  | 118 => ⟨S576, .i1⟩
  | 119 => ⟨S_, .i32⟩
  | 120 => ⟨S576, .i32⟩
  | 121 => ⟨S576, .i32⟩
  | 122 => ⟨S576, .i32⟩
  | 123 => ⟨S576x1, .i32⟩
  | 124 => ⟨S576x18432, .i32⟩
  | 125 => ⟨S576x18432, .bf16⟩
  | 126 => ⟨S576x18432, .bf16⟩
  | 127 => ⟨S_, .i32⟩
  | _ => ⟨S256x1x4608, .bf16⟩

abbrev hbmTy0_2 (i : Nat) : BufTy := match i % 128 with
  | 0 => ⟨S576, .i32⟩
  | 1 => ⟨S576, .i1⟩
  | 2 => ⟨S_, .i32⟩
  | 3 => ⟨S576, .i32⟩
  | 4 => ⟨S576, .i32⟩
  | 5 => ⟨S576, .i32⟩
  | 6 => ⟨S576x1, .i32⟩
  | 7 => ⟨S576x18432, .bf16⟩
  | 8 => ⟨S576x18432, .bf16⟩
  | 9 => ⟨S256x1x576, .bf16⟩
  | 10 => ⟨S256x1x18432, .f32⟩
  | 11 => ⟨S256x1x18432, .f32⟩
  | 12 => ⟨S256x1x18432, .bf16⟩
  | 13 => ⟨S256x18432, .bf16⟩
  | _ => ⟨S256x1x4608, .bf16⟩

abbrev hbmTy (i : Nat) : BufTy := match i / 128 with
  | 0 => hbmTy0_0 i
  | 1 => hbmTy0_1 i
  | 2 => hbmTy0_2 i
  | _ => ⟨S256x1x4608, .bf16⟩

abbrev bufTy : (tb : Table) → Fin (tcTables nBuf tb) → BufTy
  | .hbm, ⟨i, _⟩ => hbmTy i
  | _, _ => ⟨S256x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_13 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_15 : Ref sig .tc := ⟨.hbm, 84, rfl⟩
abbrev main_v63 : Ref sig .tc := ⟨.hbm, 85, rfl⟩
abbrev main_v64 : Ref sig .tc := ⟨.hbm, 86, rfl⟩
abbrev main_c_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_17 : Ref sig .tc := ⟨.hbm, 95, rfl⟩
abbrev main_v72 : Ref sig .tc := ⟨.hbm, 96, rfl⟩
abbrev main_v73 : Ref sig .tc := ⟨.hbm, 97, rfl⟩
abbrev main_c_18 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_19 : Ref sig .tc := ⟨.hbm, 108, rfl⟩
abbrev main_v83 : Ref sig .tc := ⟨.hbm, 109, rfl⟩
abbrev main_v84 : Ref sig .tc := ⟨.hbm, 110, rfl⟩
abbrev main_c_20 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_21 : Ref sig .tc := ⟨.hbm, 116, rfl⟩
abbrev main_v89 : Ref sig .tc := ⟨.hbm, 117, rfl⟩
abbrev main_v90 : Ref sig .tc := ⟨.hbm, 118, rfl⟩
abbrev main_c_22 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_23 : Ref sig .tc := ⟨.hbm, 127, rfl⟩
abbrev main_v98 : Ref sig .tc := ⟨.hbm, 128, rfl⟩
abbrev main_v99 : Ref sig .tc := ⟨.hbm, 129, rfl⟩
abbrev main_c_24 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_25 : Ref sig .tc := ⟨.hbm, 140, rfl⟩
abbrev main_v109 : Ref sig .tc := ⟨.hbm, 141, rfl⟩
abbrev main_v110 : Ref sig .tc := ⟨.hbm, 142, rfl⟩
abbrev main_c_26 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_c_27 : Ref sig .tc := ⟨.hbm, 148, rfl⟩
abbrev main_v115 : Ref sig .tc := ⟨.hbm, 149, rfl⟩
abbrev main_v116 : Ref sig .tc := ⟨.hbm, 150, rfl⟩
abbrev main_c_28 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_29 : Ref sig .tc := ⟨.hbm, 159, rfl⟩
abbrev main_v124 : Ref sig .tc := ⟨.hbm, 160, rfl⟩
abbrev main_v125 : Ref sig .tc := ⟨.hbm, 161, rfl⟩
abbrev main_c_30 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_c_31 : Ref sig .tc := ⟨.hbm, 172, rfl⟩
abbrev main_v135 : Ref sig .tc := ⟨.hbm, 173, rfl⟩
abbrev main_v136 : Ref sig .tc := ⟨.hbm, 174, rfl⟩
abbrev main_c_32 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_c_33 : Ref sig .tc := ⟨.hbm, 180, rfl⟩
abbrev main_v141 : Ref sig .tc := ⟨.hbm, 181, rfl⟩
abbrev main_v142 : Ref sig .tc := ⟨.hbm, 182, rfl⟩
abbrev main_c_34 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_c_35 : Ref sig .tc := ⟨.hbm, 191, rfl⟩
abbrev main_v150 : Ref sig .tc := ⟨.hbm, 192, rfl⟩
abbrev main_v151 : Ref sig .tc := ⟨.hbm, 193, rfl⟩
abbrev main_c_36 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_c_37 : Ref sig .tc := ⟨.hbm, 204, rfl⟩
abbrev main_v161 : Ref sig .tc := ⟨.hbm, 205, rfl⟩
abbrev main_v162 : Ref sig .tc := ⟨.hbm, 206, rfl⟩
abbrev main_c_38 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_c_39 : Ref sig .tc := ⟨.hbm, 212, rfl⟩
abbrev main_v167 : Ref sig .tc := ⟨.hbm, 213, rfl⟩
abbrev main_v168 : Ref sig .tc := ⟨.hbm, 214, rfl⟩
abbrev main_c_40 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_c_41 : Ref sig .tc := ⟨.hbm, 223, rfl⟩
abbrev main_v176 : Ref sig .tc := ⟨.hbm, 224, rfl⟩
abbrev main_v177 : Ref sig .tc := ⟨.hbm, 225, rfl⟩
abbrev main_c_42 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_c_43 : Ref sig .tc := ⟨.hbm, 236, rfl⟩
abbrev main_v187 : Ref sig .tc := ⟨.hbm, 237, rfl⟩
abbrev main_v188 : Ref sig .tc := ⟨.hbm, 238, rfl⟩
abbrev main_c_44 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_c_45 : Ref sig .tc := ⟨.hbm, 244, rfl⟩
abbrev main_v193 : Ref sig .tc := ⟨.hbm, 245, rfl⟩
abbrev main_v194 : Ref sig .tc := ⟨.hbm, 246, rfl⟩
abbrev main_c_46 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_c_47 : Ref sig .tc := ⟨.hbm, 255, rfl⟩
abbrev main_v202 : Ref sig .tc := ⟨.hbm, 256, rfl⟩
abbrev main_v203 : Ref sig .tc := ⟨.hbm, 257, rfl⟩
abbrev main_c_48 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩

abbrev nD : Nat := 1
abbrev τ : Topo := Topo.v7x

variable {F : FTy → Type} [FloatOps F]
-- ==== Proof.KBody.lean ====
module

public import proofs.«01_k».proof.Proof.Gen.Kernel.Loops
public import proofs.«01_k».proof.Proof.Gen.Kernel.Launch
public import Idealize.ShloMosaic.Lib.Tactic
public import Idealize.ShloMosaic.Lib.Ring
public import Idealize.ShloMosaic.Lib.WordCmp

@[expose] public section

set_option warn.classDefReducibility false
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A word below 36 names rows inside the table scratch: the side condition of the first row copy. -/
theorem chk1_of_lt (v : BitVec 32) (h : v.toNat < 36) : k0_chk1 v := by
  unfold k0_chk1 k0_mult1 k0_off2
  have e : (Scalar.muli v 8#32 : BitVec 32).toNat = v.toNat * 8 := by
    simp [Scalar.muli, IntOp.muli, BitVec.toNat_mul]; omega
  refine ⟨by rw [e]; exact Dvd.intro_left _ rfl, ?_⟩
  intro a; fin_cases a <;> simp [Scalar.indexCast, e] <;> omega

/-- A word below 36 names rows inside the table scratch: the side condition of the second row copy. -/
theorem chk2_of_lt (v : BitVec 32) (h : v.toNat < 36) : k0_chk2 v := chk1_of_lt v h

/-- The group table held at half the full share. -/
abbrev tabPt (c : Dev nD) (M : Memref sig .tc .smem S4608 .i32) (f : Buf (Elt F) (M.view.loc (c : Thread nD τ))) : sProp 𝕄 :=
  M.view.loc (c : Thread nD τ) ↦{fullShare.right} f

/-- Every word of the group table names a group: what the kernel assumes of the words it reads. -/
def InRange (c : Dev nD) (arg1 : Memref sig .tc .smem S4608 .i32) (f1 : Buf (Elt F) (arg1.view.loc (c : Thread nD τ))) : Prop :=
  ∀ (r : Rect S4608) (y : r.shape.Idx), BitVec.toNat (arg1.view.readAt (Elt F) r.toLoadRect f1 y : BitVec 32) < 36

/-- What one trip of the row copies touches: the group table, the packed table and the expanded rows. -/
abbrev Copy (c : Dev nD) (arg1 : Memref sig .tc .smem S4608 .i32) (arg7 : Memref sig .tc .vmem S288x128 .i32) (arg8 : Memref sig .tc .vmem S2080x128 .i32)
    (f1 : Buf (Elt F) (arg1.view.loc (c : Thread nD τ))) (f7 : Buf (Elt F) (arg7.view.loc (c : Thread nD τ))) : sProp 𝕄 :=
  iprop(tabPt c arg1 f1 ∗ (arg7.view.loc (c : Thread nD τ) ↦[arg7.view.set]{fullShare} f7)
      ∗ (∃ f8, arg8.view.loc (c : Thread nD τ) ↦[arg8.view.set]{fullShare} f8))

/-- One trip of the row copies runs, for any contents of the scratches. -/
theorem copy_trip (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2080x128 .i32) (harg8 : arg8.IsWhole) (arg9 : Memref sig .tc .vmem S256x1024 .f32) (harg9 : arg9.IsWhole) (c0_i32 c1_i32 : BitVec 32) (k0_t1 : Fin k0_t1_loop.trips)
    (f1 : Buf (Elt F) (arg1.view.loc (c : Thread nD τ))) (h1 : InRange c arg1 f1)
    (f7 : Buf (Elt F) (arg7.view.loc (c : Thread nD τ))) (k2 : Fin k0_t2_loop.trips) :
    Copy c arg1 arg7 arg8 f1 f7
    ⊢ wp frame (wpE (defs₀ (F := F)) Variants.none c none) Set.univ (k0_t2_body i arg1 harg1 arg2 harg2 arg3 harg3 arg4 harg4 arg5 harg5 arg6 harg6 arg7 harg7 arg8 harg8 arg9 harg9 c0_i32 c1_i32 k0_t1 k2 ())
      (fun _ => Copy c arg1 arg7 arg8 f1 f7) := by
  have hc1 : ∀ (r : Rect S4608) (y : r.shape.Idx), k0_chk1 (arg1.view.readAt (Elt F) r.toLoadRect f1 y) := fun r y => chk1_of_lt _ (h1 r y)
  have hc2 : ∀ (r : Rect S4608) (y : r.shape.Idx), k0_chk2 (arg1.view.readAt (Elt F) r.toLoadRect f1 y) := fun r y => chk2_of_lt _ (h1 r y)
  unfold k0_t2_body
  iintro ⟨H1, H7, ⟨%f8, H8⟩⟩
  sl_exec
  sl_step
  isplitl [H1]; · iexact H1
  isplitl [H7]; · iexact H7
  iexists _; iexact H8

/-- The invariant of the row copies: the expanded rows at some contents. -/
@[sl_loop] noncomputable def loopInv_k0_t2 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2080x128 .i32) (harg8 : arg8.IsWhole) (arg9 : Memref sig .tc .vmem S256x1024 .f32) (harg9 : arg9.IsWhole) (c0_i32 c1_i32 : BitVec 32) (k0_t1 : Fin k0_t1_loop.trips)
    (f1 : Buf (Elt F) (arg1.view.loc (c : Thread nD τ))) (h1 : InRange c arg1 f1)
    (f7 : Buf (Elt F) (arg7.view.loc (c : Thread nD τ))) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 c0_i32 c1_i32 k0_t1 where
  inv := fun _ _ => Copy c arg1 arg7 arg8 f1 f7
  step := fun k acc => copy_trip c i arg1 harg1 arg2 harg2 arg3 harg3 arg4 harg4 arg5 harg5 arg6 harg6 arg7 harg7 arg8 harg8 arg9 harg9 c0_i32 c1_i32 k0_t1 f1 h1 f7 k

/-- What one trip over the blocks of 256 inner coordinates touches. -/
abbrev Block (c : Dev nD) (arg1 : Memref sig .tc .smem S4608 .i32) (arg2 : Memref sig .tc .vmem S256x4608 .bf16) (arg3 : Memref sig .tc .vmem S576x1024 .i32) (arg7 : Memref sig .tc .vmem S288x128 .i32) (arg8 : Memref sig .tc .vmem S2080x128 .i32) (arg9 : Memref sig .tc .vmem S256x1024 .f32)
    (f1 : Buf (Elt F) (arg1.view.loc (c : Thread nD τ))) (f2 : Buf (Elt F) (arg2.view.loc (c : Thread nD τ))) (f3 : Buf (Elt F) (arg3.view.loc (c : Thread nD τ))) (f7 : Buf (Elt F) (arg7.view.loc (c : Thread nD τ))) : sProp 𝕄 :=
  iprop(tabPt c arg1 f1 ∗ (arg2.view.loc (c : Thread nD τ) ↦[arg2.view.set]{fullShare} f2) ∗ (arg3.view.loc (c : Thread nD τ) ↦[arg3.view.set]{fullShare} f3)
      ∗ (arg7.view.loc (c : Thread nD τ) ↦[arg7.view.set]{fullShare} f7)
      ∗ (∃ f8, arg8.view.loc (c : Thread nD τ) ↦[arg8.view.set]{fullShare} f8)
      ∗ (∃ f9, arg9.view.loc (c : Thread nD τ) ↦[arg9.view.set]{fullShare} f9))

set_option maxHeartbeats 4000000 in
/-- One trip over the blocks runs, for any contents of the scratches. -/
theorem block_trip (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2080x128 .i32) (harg8 : arg8.IsWhole) (arg9 : Memref sig .tc .vmem S256x1024 .f32) (harg9 : arg9.IsWhole)
    (f1 : Buf (Elt F) (arg1.view.loc (c : Thread nD τ))) (h1 : InRange c arg1 f1)
    (f2 : Buf (Elt F) (arg2.view.loc (c : Thread nD τ))) (f3 : Buf (Elt F) (arg3.view.loc (c : Thread nD τ)))
    (f7 : Buf (Elt F) (arg7.view.loc (c : Thread nD τ))) (k1 : Fin k0_t1_loop.trips) :
    Block c arg1 arg2 arg3 arg7 arg8 arg9 f1 f2 f3 f7
    ⊢ wp frame (wpE (defs₀ (F := F)) Variants.none c none) Set.univ (k0_t1_body i arg1 harg1 arg2 harg2 arg3 harg3 arg4 harg4 arg5 harg5 arg6 harg6 arg7 harg7 arg8 harg8 arg9 harg9 k1 ())
      (fun _ => Block c arg1 arg2 arg3 arg7 arg8 arg9 f1 f2 f3 f7) := by
  unfold k0_t1_body
  iintro ⟨H1, H2, H3, H7, ⟨%f8, H8⟩, ⟨%f9, H9⟩⟩
  sl_exec
  sl_step
  isplitl [H1]; · iexact H1
  isplitl [H2]; · iexact H2
  isplitl [H3]; · iexact H3
  isplitl [H7]; · iexact H7
  isplitl [H8]; · iexists _; iexact H8
  iexists _; iexact H9

/-- The invariant over the blocks: the scratches at some contents. -/
@[sl_loop] noncomputable def loopInv_k0_t1 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2080x128 .i32) (harg8 : arg8.IsWhole) (arg9 : Memref sig .tc .vmem S256x1024 .f32) (harg9 : arg9.IsWhole)
    (f1 : Buf (Elt F) (arg1.view.loc (c : Thread nD τ))) (h1 : InRange c arg1 f1)
    (f2 : Buf (Elt F) (arg2.view.loc (c : Thread nD τ))) (f3 : Buf (Elt F) (arg3.view.loc (c : Thread nD τ)))
    (f7 : Buf (Elt F) (arg7.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 where
  inv := fun _ _ => Block c arg1 arg2 arg3 arg7 arg8 arg9 f1 f2 f3 f7
  step := fun k acc => block_trip c i arg1 harg1 arg2 harg2 arg3 harg3 arg4 harg4 arg5 harg5 arg6 harg6 arg7 harg7 arg8 harg8 arg9 harg9 f1 h1 f2 f3 f7 k

set_option maxHeartbeats 4000000 in
/-- The whole body runs at a point of the grid: the inputs keep their blocks, the output's buffer and the scratches end at
    some contents. -/
theorem body_run (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x128 .i32) (harg7 : arg7.IsWhole) (arg8 : Memref sig .tc .vmem S2080x128 .i32) (harg8 : arg8.IsWhole) (arg9 : Memref sig .tc .vmem S256x1024 .f32) (harg9 : arg9.IsWhole)
    (x0 : Vec F S256x4608 .bf16) (x1 : Vec F S576x1024 .i32) (x2 : Vec F S36x1024 .bf16) (x3 : Vec F S18x1024 .i8)
    (f1 : Buf (Elt F) (arg1.view.loc (c : Thread nD τ))) (h1 : InRange c arg1 f1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tabPt c arg1 f1
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tabPt c arg1 f1) -∗ K ⟨⟩))
      ⊢ wp frame (wpE (defs₀ (F := F)) Variants.none c none) Set.univ (cc0_int4_linear i arg1 harg1 arg2 harg2 arg3 harg3 arg4 harg4 arg5 harg5 arg6 harg6 arg7 harg7 arg8 harg8 arg9 harg9) K := by
  simp only [cc0_int4_linear_eq_skeleton]; unfold cc0_int4_linear_skel
  unfold owns
  iintro ⟨⟨%g0, %hf0, H0⟩, ⟨%g1, %hf1, H1⟩, ⟨%g2, %hf2, H2⟩, ⟨%g3, %hf3, H3⟩, ⟨%d4, %f4, -, H4⟩, ⟨%ds0, %fs0, -, HS0⟩, ⟨%ds1, %fs1, -, HS1⟩, ⟨%ds2, %fs2, -, HS2⟩, HT0, Hk⟩
  subst hf0; subst hf1; subst hf2; subst hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _, _; isplitr; swap; · iexact H4
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexact HT0

end Cert.Kernel.Hand

end
-- ==== Proof.KFrame.lean ====
module

public import proofs.«01_k».proof.Proof.Gen.Kernel
public import proofs.«01_k».proof.Proof.Gen.Kernel.Skeleton
public import proofs.«01_k».proof.Proof.KBody
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 18 = 0 :=
  (fun t => Pipeline.Window.fetchOf_const cc0_transform_0 (fun _ _ => rfl) (n := 18) (by decide) t : ∀ t : Fin grid0.N, Pipeline.Window.fetchOf grid0 false cc0_transform_0 t = true ↔ t.val % 18 = 0)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 1 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (result 0 (%1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 1 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_int4_linear (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4608 .i32 := Memref.whole main_arg4
abbrev htbM0_0 : tbM0_0.IsWhole := Memref.isWhole_whole _

/-- The tables' halves the region hands the body (Lib/Pipeline/Frame.lean `ΦT`), table by table: what the body
    obligation hands the run and takes back. -/
theorem PhiT0_eq (c : Dev nD) : (Pipeline.ΦT pre0 (tbl m) c : sProp 𝕄) = iprop(tabPt c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x4608 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S576x1024 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S36x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S18x1024 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S288x128 .i32 := Memref.whole cc0_scratch0
abbrev scM0_1 : Memref sig .tc .vmem S2080x128 .i32 := Memref.whole cc0_scratch1
abbrev scM0_2 : Memref sig .tc .vmem S256x1024 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ d, owns (c : Thread nD τ) (ms0_4 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hR : ∀ c : Dev nD, InRange c tbM0_0 (tbl m 0)) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ _ _ (iblk m hO c 0 t) (iblk m hO c 1 t) (iblk m hO c 2 t) (iblk m hO c 3 t) (tbl m 0) (hR c) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  iintro ⟨H0, H1, H2, H3, H4, HS0, HS1, HS2, HT0⟩
  isplitl [HS0 HS1 HS2 Hg HT0]
  · isplitl [HS0 HS1 HS2 Hg]
    · isplitl [HS0 HS1 HS2]
      · isplitl [HS0]
        · iexact HS0
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hR : ∀ c : Dev nD, InRange c tbM0_0 (tbl m 0)) (c : Dev nD) : BodyObligation (dats (F := F) m hO 0 c) (defs₀ (F := F)) Variants.none () Set.univ forgets0 := fun t => by
  rw [bigSep_W0, bigSep_W0, defs₀_row m hO]
  exact triple_restated (sound_body m hO hR c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hR : ∀ c : Dev nD, InRange c tbM0_0 (tbl m 0)) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hR c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main (hO : Ok m) (hR : ∀ c : Dev nD, InRange c tbM0_0 (tbl m 0)) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hR)

/-- `frame` without the counters: the argument arrays end unchanged. -/
theorem unchanged (hO : Ok m) (hR : ∀ c : Dev nD, InRange c tbM0_0 (tbl m 0)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO hR)

/-- The kernel's frame, when the group table's words name groups: every execution ends, the arguments unchanged and every
    semaphore at zero. -/
theorem frame (hO : Ok m) (hR : ∀ c : Dev nD, InRange c tbM0_0 (tbl m 0)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hR) ((θ_run defs _ _).mono (fun _ h => h.2) (run_main_quiescent m ρ hO hR))

end Cert.Kernel.Hand

end
-- ==== Proof.Pre.lean ====
module

public import proofs.«01_k».proof.Proof.Gen.Pre_groups_in_range
public import Idealize.ShloMosaic.Lib.StableHlo
public import Idealize.ShloMosaic.Lib.ReduceAll

@[expose] public section

namespace Cert.Hand

open Idealize.ShloMosaic

/-- The precondition, read as a fact of each word: every row's word is below 36, unsigned. -/
theorem lt_of_pre [Cert.Pre_groups_in_range.Facts] {F : FTy → Type} [FloatOps F] {x0 x1 x2 x3}
    {g : IVec Cert.Pre_groups_in_range.S4608 32}
    (h : Cert.Pre_groups_in_range.fn (F := F) x0 x1 x2 x3 g = fun _ => 1#1) (i : Cert.Pre_groups_in_range.S4608.Idx) :
    (g i).toNat < 36 := by
  haveI : Subsingleton Cert.Pre_groups_in_range.S_.Idx := ⟨fun a b => by funext k; exact k.elim0⟩
  have e := Host.reduce_andi_all _ _ _ _ _ (congrFun h (fun k => k.elim0)) i
  simp only [andi, cmpi, broadcastInDim, constantI] at e
  obtain ⟨e1, e2⟩ := IntOp.andi_eq_one.1 e
  have e1 := IntOp.cmpi_sge.1 e1
  have e2 := IntOp.cmpi_slt.1 e2
  simp only [BitVec.toInt] at e1 e2
  rw [show (0#32 : BitVec 32).toNat = 0 from rfl, if_pos (by decide)] at e1
  rw [show (36#32 : BitVec 32).toNat = 36 from rfl, if_pos (by decide : 2 * 36 < 2 ^ 32)] at e2
  split at e1 <;> rename_i hk
  · rw [if_pos hk] at e2; omega
  · rw [if_neg hk] at e2; omega

end Cert.Hand
-- ==== Proof.KClaim.lean ====
module

public import proofs.«01_k».proof.Defs
public import proofs.«01_k».proof.Proof.KFrame
public import proofs.«01_k».proof.Proof.Pre

@[expose] public section

set_option maxRecDepth 16384

namespace Cert.Kernel.Hand

open Cert.Kernel Cert.Kernel.Gen
open Idealize.ShloMosaic Idealize.ShloMosaic.TcCoe

/-- Under the precondition every word the kernel reads of the group table names a group. -/
theorem inRange_of_pre [Cert.Pre_groups_in_range.Facts] (m : (ℓ : Loc nD τ sig) → Buf (Elt Bits) ℓ) (h : Cert.Pre_Kernel m) (c : Dev nD) :
    InRange c tbM0_0 (tbl m 0) := by
  intro r y
  have e : tbl m 0 = m ((0 : Dev nD).tc.loc main_arg4) := V_main_arg4 m 0
  rw [e]
  exact Cert.Hand.lt_of_pre (h 0) _

/-- The kernel runs to completion and leaves its arguments unchanged, for every group table in range. -/
theorem quiescent [Cert.Pre_groups_in_range.Facts] : Cert.quiescent_Kernel :=
  fun m g h => frame m g trivial (inRange_of_pre m h)

end Cert.Kernel.Hand
-- ==== Proof.ICopy.lean ====
module

public import proofs.«01_k».proof.Proof.Gen.KernelIdeal.Loops
public import proofs.«01_k».proof.Proof.Gen.KernelIdeal.Launch
public import Idealize.ShloMosaic.Lib.Tactic
public import Idealize.ShloMosaic.Lib.Ring
public import Idealize.ShloMosaic.Lib.WordCmp
public import Idealize.ShloMosaic.Lib.Pointwise
public import Idealize.ShloMosaic.Lib.Bf16Pair

@[expose] public section

set_option warn.classDefReducibility false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A word below 36 names rows inside the table scratch: the side condition of the first row copy. -/
theorem chk1_of_lt (v : BitVec 32) (h : v.toNat < 36) : k0_chk1 v := by
  unfold k0_chk1 k0_mult1 k0_off2
  have e : (Scalar.muli v 8#32 : BitVec 32).toNat = v.toNat * 8 := by
    simp [Scalar.muli, IntOp.muli, BitVec.toNat_mul]; omega
  refine ⟨by rw [e]; exact Dvd.intro_left _ rfl, ?_⟩
  intro a; fin_cases a <;> simp [Scalar.indexCast, e] <;> omega

/-- A word below 36 names rows inside the table scratch: the side condition of the second row copy. -/
theorem chk2_of_lt (v : BitVec 32) (h : v.toNat < 36) : k0_chk2 v := chk1_of_lt v h

/-- The rows the first copy reads of the table, in closed form. -/
theorem off2_eq (v : BitVec 32) (h : v.toNat < 36) : k0_off2 v = ![v.toNat * 8, 0, 0] := by
  unfold k0_off2
  have e : (Scalar.muli v 8#32 : BitVec 32).toNat = v.toNat * 8 := by
    simp [Scalar.muli, IntOp.muli, BitVec.toNat_mul]; omega
  funext a; fin_cases a <;> simp [Scalar.indexCast, e]

/-- The rows the second copy reads of the table, in closed form. -/
theorem off5_eq (v : BitVec 32) (h : v.toNat < 36) : k0_off5 v = ![v.toNat * 8, 0, 0] := off2_eq v h

/-- The rows a copy stores are the rows it loaded: taking a pair of rows apart and joining it again changes nothing. -/
theorem pay3_eq (x : Vec F S8x2x128 .bf16) : k0_pay3 x = x := by
  unfold k0_pay3
  simp only [shapeCast_shapeCast, shapeCast_self]
  exact interleaveRows_rowsOfParity _ _

/-- The same of the second copy. -/
theorem pay4_eq (x : Vec F S8x2x128 .bf16) : k0_pay4 x = x := pay3_eq x

/-- The group table held at half the full share. -/
abbrev tabPt (c : Dev nD) (M : Memref sig .tc .smem S4608 .i32) (f : Buf (Elt F) (M.view.loc (c : Thread nD τ))) : sProp 𝕄 :=
  M.view.loc (c : Thread nD τ) ↦{fullShare.right} f

/-- Every word of the group table names a group: what the kernel assumes of the words it reads. -/
def InRange (c : Dev nD) (arg1 : Memref sig .tc .smem S4608 .i32) (f1 : Buf (Elt F) (arg1.view.loc (c : Thread nD τ))) : Prop :=
  ∀ (r : Rect S4608) (y : r.shape.Idx), BitVec.toNat (arg1.view.readAt (Elt F) r.toLoadRect f1 y : BitVec 32) < 36

/-- Row `n`'s word of a group table. -/
def grp (X : Vec F S4608 .i32) (n : ℕ) : ℕ := BitVec.toNat (X (fun a => ⟨n % 4608, by fin_cases a; exact Nat.mod_lt _ (by decide)⟩) : BitVec 32)

/-- Row `r`, half `p`, lane `l` of the packed table. -/
def tAt (T : Vec F S288x2x128 .bf16) (r : ℕ) (p : Fin 2) (l : Fin 128) : Elt F .bf16 :=
  T (fun a => match a with | 0 => ⟨r % 288, Nat.mod_lt _ (by decide)⟩ | 1 => p | 2 => l)

/-- The expanded rows after `k` trips of the copies of block `kc`: row `j·260 + h·128 + i` is the table's row `j` of the
    group of inner coordinate `256·kc + 2·i + h`. -/
def Copied (X : Vec F S4608 .i32) (T : Vec F S288x2x128 .bf16) (kc k : ℕ) (E : Vec F S2080x2x128 .bf16) : Prop :=
  ∀ h i j : ℕ, h < 2 → i < k → j < 8 → ∀ z : S2080x2x128.Idx, (z 0).val = j * 260 + h * 128 + i →
    E z = tAt T (grp X (256 * kc + 2 * i + h) * 8 + j) (z 1) (z 2)

/-- The word a load of one element reads is the table's word of that row. -/
theorem word_eq (v : View sig .tc .smem S4608 .i32) (f : v.ty.Contents (Elt F)) (off : Fin 1 → ℕ) (n : ℕ) (inb) (h : off = ![n]) (hn : n < 4608)
    (y : (Rect.unit (s := S4608) off S1.size inb).shape.Idx) :
    BitVec.toNat (v.readAt (Elt F) (Rect.unit (s := S4608) off S1.size inb).toLoadRect f y : BitVec 32) = grp (v.read (Elt F) f) n := by
  subst h
  unfold grp
  refine congrArg (fun q => BitVec.toNat (v.read (Elt F) f q : BitVec 32)) (funext fun a => Fin.ext ?_)
  obtain rfl : a = 0 := Subsingleton.elim _ _
  have hy : (y 0).val = 0 := by have := (y 0).isLt; simpa using Nat.lt_one_iff.mp this
  show n + 1 * (y 0).val = n % 4608
  rw [hy, Nat.mod_eq_of_lt hn]; rfl

/-- The rows a load of eight pairs of rows reads of the packed table. -/
theorem rows_eq (v : View sig .tc .vmem S288x2x128 .bf16) (f : v.ty.Contents (Elt F)) (off : Fin 3 → ℕ) (r : ℕ) (inb) (h : off = ![r, 0, 0])
    (y : S8x2x128.Idx) :
    v.readAt (Elt F) (Rect.unit (s := S288x2x128) off S8x2x128.size inb).toLoadRect f y = tAt (v.read (Elt F) f) (r + (y 0).val) (y 1) (y 2) := by
  subst h
  have h0 := (y 0).isLt
  have hr := inb 0
  simp at hr h0
  refine congrArg (v.read (Elt F) f) (funext fun a => Fin.ext ?_)
  match a with
  | ⟨0, _⟩ => show r + 1 * (y 0).val = (r + (y 0).val) % 288; rw [Nat.mod_eq_of_lt (by omega)]; omega
  | ⟨1, _⟩ => show 0 + 1 * (y 1).val = (y 1).val; omega
  | ⟨2, _⟩ => show 0 + 1 * (y 2).val = (y 2).val; omega

/-- A strided store of eight pairs of rows from row `r`, 260 rows apart, read at one of its rows. -/
theorem read_stride_mem (v : View sig .tc .vmem S2080x2x128 .bf16) (f : v.ty.Contents (Elt F)) (off : Fin 3 → ℕ) (r : ℕ) (inb) (pos) (h : off = ![r, 0, 0])
    (w : S8x2x128.Idx → Elt F .bf16) (L : List (View.Piece (Elt F) S2080x2x128 .bf16)) (z : S2080x2x128.Idx) (y : S8x2x128.Idx)
    (h0 : (z 0).val = r + 260 * (y 0).val) (h1 : (z 1).val = (y 1).val) (h2 : (z 2).val = (y 2).val) :
    v.read (Elt F) (v.writes (Elt F) f (⟨⟨⟨off, S8x2x128.size, ![260, 1, 1], inb⟩, pos⟩, w⟩ :: L)) z = w y := by
  subst h
  have e : z = (⟨⟨![r, 0, 0], S8x2x128.size, ![260, 1, 1], inb⟩, pos⟩ : Rect S2080x2x128).emb y := by
    funext a; refine Fin.ext ?_
    match a with
    | ⟨0, _⟩ => exact h0
    | ⟨1, _⟩ => show (z 1).val = 0 + 1 * (y 1).val; omega
    | ⟨2, _⟩ => show (z 2).val = 0 + 1 * (y 2).val; omega
  rw [e]; exact View.read_writes_cons_emb ..

/-- The same store read at any other row. -/
theorem read_stride_not_mem (v : View sig .tc .vmem S2080x2x128 .bf16) (f : v.ty.Contents (Elt F)) (off : Fin 3 → ℕ) (r : ℕ) (inb) (pos) (h : off = ![r, 0, 0])
    (w : S8x2x128.Idx → Elt F .bf16) (L : List (View.Piece (Elt F) S2080x2x128 .bf16)) (z : S2080x2x128.Idx)
    (h0 : ∀ y < 8, (z 0).val ≠ r + 260 * y) :
    v.read (Elt F) (v.writes (Elt F) f (⟨⟨⟨off, S8x2x128.size, ![260, 1, 1], inb⟩, pos⟩, w⟩ :: L)) z = v.read (Elt F) (v.writes (Elt F) f L) z := by
  subst h
  rw [View.writes_cons, View.read_slice_write_of_not_mem]
  rw [Rect.map_emb_univ]
  intro hm
  obtain ⟨x, rfl⟩ := (⟨⟨![r, 0, 0], S8x2x128.size, ![260, 1, 1], inb⟩, pos⟩ : Rect S2080x2x128).exists_idx_of_mem hm
  exact h0 (x 0).val (x 0).isLt rfl

/-- One more trip of the copies: the two strided stores put the two rows of the trip in place. -/
theorem copied_step (v : View sig .tc .vmem S2080x2x128 .bf16) (f : v.ty.Contents (Elt F)) (X : Vec F S4608 .i32) (T : Vec F S288x2x128 .bf16) (kc k : ℕ)
    (off3 off6 : Fin 3 → ℕ) (inb3 inb6) (pos3 pos6) (h3 : off3 = ![k, 0, 0]) (h6 : off6 = ![k + 128, 0, 0]) (hk : k < 128)
    (w3 w6 : S8x2x128.Idx → Elt F .bf16)
    (e3 : ∀ y : S8x2x128.Idx, w3 y = tAt T (grp X (256 * kc + 2 * k) * 8 + (y 0).val) (y 1) (y 2))
    (e6 : ∀ y : S8x2x128.Idx, w6 y = tAt T (grp X (256 * kc + 2 * k + 1) * 8 + (y 0).val) (y 1) (y 2))
    (hE : Copied X T kc k (v.read (Elt F) f)) :
    Copied X T kc (k + 1) (v.read (Elt F) (v.writes (Elt F) f
      [⟨⟨⟨off6, S8x2x128.size, ![260, 1, 1], inb6⟩, pos6⟩, w6⟩, ⟨⟨⟨off3, S8x2x128.size, ![260, 1, 1], inb3⟩, pos3⟩, w3⟩])) := by
  intro h i j hh hi hj z hz
  have hm : (z 0).val % 260 = h * 128 + i := by omega
  let y : S8x2x128.Idx := fun a => match a with | 0 => ⟨j, hj⟩ | 1 => z 1 | 2 => z 2
  by_cases hik : i = k
  · subst hik
    by_cases h01 : h = 1
    · subst h01
      rw [read_stride_mem v f off6 _ inb6 pos6 h6 w6 _ z y (by show _ = _ + 260 * j; omega) rfl rfl, e6]
    · obtain rfl : h = 0 := by omega
      rw [read_stride_not_mem v f off6 _ inb6 pos6 h6 w6 _ z (by intro y hy e; rw [e] at hm; omega),
        read_stride_mem v f off3 _ inb3 pos3 h3 w3 _ z y (by show _ = _ + 260 * j; omega) rfl rfl, e3]
      rfl
  · rw [read_stride_not_mem v f off6 _ inb6 pos6 h6 w6 _ z (by intro y hy e; rw [e] at hm; omega),
      read_stride_not_mem v f off3 _ inb3 pos3 h3 w3 _ z (by intro y hy e; rw [e] at hm; omega)]
    exact hE h i j hh (by omega) hj z hz

/-- What one trip of the row copies touches: the group table, the packed table and the expanded rows, `k` trips done. -/
abbrev Copy (c : Dev nD) (arg1 : Memref sig .tc .smem S4608 .i32) (arg7 : Memref sig .tc .vmem S288x2x128 .bf16) (arg8 : Memref sig .tc .vmem S2080x2x128 .bf16)
    (f1 : Buf (Elt F) (arg1.view.loc (c : Thread nD τ))) (f7 : Buf (Elt F) (arg7.view.loc (c : Thread nD τ))) (kc k : ℕ) : sProp 𝕄 :=
  iprop(tabPt c arg1 f1 ∗ (arg7.view.loc (c : Thread nD τ) ↦[arg7.view.set]{fullShare} f7)
      ∗ (∃ f8, ⌜Copied (arg1.view.read (Elt F) f1) (arg7.view.read (Elt F) f7) kc k (arg8.view.read (Elt F) f8)⌝ ∗ arg8.view.loc (c : Thread nD τ) ↦[arg8.view.set]{fullShare} f8))

/-- One trip of the row copies: from `k` trips done to `k + 1`. -/
theorem copy_trip (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2080x2x128 .bf16) (harg8 : arg8.IsWhole) (arg9 : Memref sig .tc .vmem S256x1024 .f32) (harg9 : arg9.IsWhole) (c0_i32 c1_i32 : BitVec 32) (k0_t1 : Fin k0_t1_loop.trips)
    (f1 : Buf (Elt F) (arg1.view.loc (c : Thread nD τ))) (h1 : InRange c arg1 f1)
    (f7 : Buf (Elt F) (arg7.view.loc (c : Thread nD τ))) (k2 : Fin k0_t2_loop.trips) :
    Copy c arg1 arg7 arg8 f1 f7 k0_t1.val k2.val
    ⊢ wp frame (wpE (defs₀ (F := F)) Variants.none c none) Set.univ (k0_t2_body i arg1 harg1 arg2 harg2 arg3 harg3 arg4 harg4 arg5 harg5 arg6 harg6 arg7 harg7 arg8 harg8 arg9 harg9 c0_i32 c1_i32 k0_t1 k2 ())
      (fun _ => Copy c arg1 arg7 arg8 f1 f7 k0_t1.val (k2.val + 1)) := by
  have hc1 : ∀ (r : Rect S4608) (y : r.shape.Idx), k0_chk1 (arg1.view.readAt (Elt F) r.toLoadRect f1 y) := fun r y => chk1_of_lt _ (h1 r y)
  have hc2 : ∀ (r : Rect S4608) (y : r.shape.Idx), k0_chk2 (arg1.view.readAt (Elt F) r.toLoadRect f1 y) := fun r y => chk2_of_lt _ (h1 r y)
  unfold k0_t2_body
  iintro ⟨H1, H7, ⟨%f8, %hE, H8⟩⟩
  sl_exec
  sl_step
  isplitl [H1]; · iexact H1
  isplitl [H7]; · iexact H7
  iexists _; isplitr; swap; · iexact H8
  ipureintro
  have hb := k2.isLt
  have ht := k0_t1.isLt
  have hb' : k2.val < 128 := lt_of_lt_of_eq hb (by decide)
  have ht' : k0_t1.val < 18 := lt_of_lt_of_eq ht (by decide)
  refine copied_step _ _ _ _ _ _ _ _ _ _ _ _ (k0_off3_eq k2) (k0_off6_eq k2) hb' _ _ (fun y => ?_) (fun y => ?_) hE
  · refine (congrFun (pay3_eq _) y).trans ((rows_eq _ _ _ (BitVec.toNat (copy_trip.sl.r c arg1 k0_t1 f1 k2) * 8) _ (off2_eq _ (h1 _ _)) y).trans ?_)
    exact congrArg (fun q => tAt _ (q * 8 + _) _ _) (word_eq _ _ _ _ _ (k0_off1_eq k0_t1 k2) (by omega) _)
  · refine (congrFun (pay4_eq _) y).trans ((rows_eq _ _ _ (BitVec.toNat (copy_trip.sl.r_1 c arg1 k0_t1 f1 k2) * 8) _ (off5_eq _ (h1 _ _)) y).trans ?_)
    exact congrArg (fun q => tAt _ (q * 8 + _) _ _) (word_eq _ _ _ _ _ (k0_off4_eq k0_t1 k2) (by omega) _)

/-- The invariant of the row copies. -/
@[sl_loop] noncomputable def loopInv_k0_t2 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2080x2x128 .bf16) (harg8 : arg8.IsWhole) (arg9 : Memref sig .tc .vmem S256x1024 .f32) (harg9 : arg9.IsWhole) (c0_i32 c1_i32 : BitVec 32) (k0_t1 : Fin k0_t1_loop.trips)
    (f1 : Buf (Elt F) (arg1.view.loc (c : Thread nD τ))) (h1 : InRange c arg1 f1)
    (f7 : Buf (Elt F) (arg7.view.loc (c : Thread nD τ))) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 c0_i32 c1_i32 k0_t1 where
  inv := fun k _ => Copy c arg1 arg7 arg8 f1 f7 k0_t1.val k
  step := fun k acc => copy_trip c i arg1 harg1 arg2 harg2 arg3 harg3 arg4 harg4 arg5 harg5 arg6 harg6 arg7 harg7 arg8 harg8 arg9 harg9 c0_i32 c1_i32 k0_t1 f1 h1 f7 k

end Cert.KernelIdeal.Hand

end
-- ==== Proof.IBlock.lean ====
module

public import proofs.«01_k».proof.Proof.Gen.KernelIdeal.Loops
public import proofs.«01_k».proof.Proof.Gen.KernelIdeal.Launch
public import Idealize.ShloMosaic.Lib.Tactic
public import Idealize.ShloMosaic.Lib.Ring
public import Idealize.ShloMosaic.Lib.WordCmp
public import Idealize.ShloMosaic.Lib.Pointwise
public import Idealize.ShloMosaic.Lib.Bf16Pair
public import Idealize.ShloMosaic.Lib.VecWindow
public import proofs.«01_k».proof.Proof.ICopy

@[expose] public section

set_option warn.classDefReducibility false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One block's product added to the accumulator, from the eight column blocks of the block's weights. -/
def stepW (c0 c1 c2 c3 c4 c5 c6 c7 : FVec F S256x128 .bf16) (acc : FVec F S256x1024 .f32) (x : Vec F S256x256 .bf16) : FVec F S256x1024 .f32 :=
  shapeCast S256x1024 (addf acc (matmul dot_S256x256_S256x1024_S256x1024_1_0_0_1_n_n none (shapeCast S256x256 x shapeCasts_S256x256_S256x256)
    (concatenate S256x1024 1 [⟨S256x128, c0⟩, ⟨S256x128, c1⟩, ⟨S256x128, c2⟩, ⟨S256x128, c3⟩, ⟨S256x128, c4⟩, ⟨S256x128, c5⟩, ⟨S256x128, c6⟩, ⟨S256x128, c7⟩]
      concatenates_S256x128_S256x128_S256x128_S256x128_S256x128_S256x128_S256x128_S256x128_S256x1024_d1)
    (constant S256x1024 .f32 0x00000000#32))) shapeCasts_S256x1024_S256x1024

/-- The words of column block `j` of block `kc`. -/
def wordsW (W : Vec F S576x1024 .i32) (kc j : ℕ) : Vec F S32x128 .i32 := fun y => W (fun a => match a with
  | 0 => ⟨(32 * kc + (y 0).val) % 576, Nat.mod_lt _ (by decide)⟩ | 1 => ⟨(128 * j + (y 1).val) % 1024, Nat.mod_lt _ (by decide)⟩)

/-- The pairs (zero point, scale) of column block `j` for the even (`h = 0`) or odd (`h = 1`) rows of block `kc`. -/
def eRow (X : Vec F S4608 .i32) (T : Vec F S288x2x128 .bf16) (kc j h : ℕ) : Vec F S128x2x128 .bf16 :=
  fun y => tAt T (grp X (256 * kc + 2 * (y 0).val + h) * 8 + j) (y 1) (y 2)

/-- The activations of block `kc`. -/
def xBlk (A : Vec F S256x4608 .bf16) (kc : ℕ) : Vec F S256x256 .bf16 := fun y => A (fun a => match a with
  | 0 => y 0 | 1 => ⟨(256 * kc + (y 1).val) % 4608, Nat.mod_lt _ (by decide)⟩)

/-- Column block `j` of block `kc`'s weights. -/
def colW (X : Vec F S4608 .i32) (T : Vec F S288x2x128 .bf16) (W : Vec F S576x1024 .i32) (kc j : ℕ) : FVec F S256x128 .bf16 :=
  k0_pay5 (wordsW W kc j) (eRow X T kc j 0) (eRow X T kc j 1)

/-- The accumulator after block `kc`. -/
def blockStep (X : Vec F S4608 .i32) (T : Vec F S288x2x128 .bf16) (A : Vec F S256x4608 .bf16) (W : Vec F S576x1024 .i32) (kc : ℕ)
    (acc : FVec F S256x1024 .f32) : FVec F S256x1024 .f32 :=
  stepW (colW X T W kc 0) (colW X T W kc 1) (colW X T W kc 2) (colW X T W kc 3) (colW X T W kc 4) (colW X T W kc 5) (colW X T W kc 6) (colW X T W kc 7) acc (xBlk A kc)

/-- The accumulator after `k` blocks. -/
def accAt (X : Vec F S4608 .i32) (T : Vec F S288x2x128 .bf16) (A : Vec F S256x4608 .bf16) (W : Vec F S576x1024 .i32) : ℕ → FVec F S256x1024 .f32
  | 0 => k0_pay47
  | k + 1 => blockStep X T A W k (accAt X T A W k)

/-- The load of a column block's words. -/
theorem words_eq (v : View sig .tc .vmem S576x1024 .i32) (f : v.ty.Contents (Elt F)) (off : Fin 2 → ℕ) (kc j : ℕ) (inb) (h : off = ![32 * kc, 128 * j]) :
    v.readAt (Elt F) (Rect.unit (s := S576x1024) off S32x128.size inb).toLoadRect f = wordsW (v.read (Elt F) f) kc j := by
  subst h
  have h0 := inb 0
  have h1 := inb 1
  simp at h0 h1
  funext y
  have y0 : (y 0).val < 32 := (y 0).isLt
  have y1 : (y 1).val < 128 := (y 1).isLt
  refine congrArg (v.read (Elt F) f) (funext fun a => Fin.ext ?_)
  match a with
  | ⟨0, _⟩ => show 32 * kc + 1 * (y 0).val = (32 * kc + (y 0).val) % 576; rw [Nat.mod_eq_of_lt (by omega)]; omega
  | ⟨1, _⟩ => show 128 * j + 1 * (y 1).val = (128 * j + (y 1).val) % 1024; rw [Nat.mod_eq_of_lt (by omega)]; omega

/-- The load of a block's activations. -/
theorem x_eq (v : View sig .tc .vmem S256x4608 .bf16) (f : v.ty.Contents (Elt F)) (off : Fin 2 → ℕ) (kc : ℕ) (inb) (h : off = ![0, 256 * kc]) :
    v.readAt (Elt F) (Rect.unit (s := S256x4608) off S256x256.size inb).toLoadRect f = xBlk (v.read (Elt F) f) kc := by
  subst h
  have h1 := inb 1
  simp at h1
  funext y
  have y1 : (y 1).val < 256 := (y 1).isLt
  refine congrArg (v.read (Elt F) f) (funext fun a => Fin.ext ?_)
  match a with
  | ⟨0, _⟩ => show 0 + 1 * (y 0).val = (y 0).val; omega
  | ⟨1, _⟩ => show 256 * kc + 1 * (y 1).val = (256 * kc + (y 1).val) % 4608; rw [Nat.mod_eq_of_lt (by omega)]; omega

/-- The load of a column block's pairs once a block's rows are all copied. -/
theorem e_eq (v : View sig .tc .vmem S2080x2x128 .bf16) (f : v.ty.Contents (Elt F)) (X : Vec F S4608 .i32) (T : Vec F S288x2x128 .bf16) (kc n j h o : ℕ) (inb)
    (hE : Copied X T kc n (v.read (Elt F) f)) (hn : n = 128) (hj : j < 8) (hh : h < 2) (ho : o = j * 260 + h * 128) :
    v.readAt (Elt F) (Rect.unit (s := S2080x2x128) ![o, 0, 0] S128x2x128.size inb).toLoadRect f = eRow X T kc j h := by
  subst ho hn
  funext y
  have y0 : (y 0).val < 128 := (y 0).isLt
  let z : S2080x2x128.Idx := fun a => match a with | 0 => ⟨j * 260 + h * 128 + (y 0).val, by show _ < 2080; omega⟩ | 1 => y 1 | 2 => y 2
  refine (congrArg (v.read (Elt F) f) (funext fun a => Fin.ext ?_) : _ = v.read (Elt F) f z).trans ?_
  · match a with
    | ⟨0, _⟩ => show j * 260 + h * 128 + 1 * (y 0).val = j * 260 + h * 128 + (y 0).val; omega
    | ⟨1, _⟩ => show 0 + 1 * (y 1).val = (y 1).val; omega
    | ⟨2, _⟩ => show 0 + 1 * (y 2).val = (y 2).val; omega
  · have e := hE h (y 0).val j hh y0 hj z rfl
    rw [e]
    show tAt T (grp X (256 * kc + 2 * (y 0).val + h) * 8 + j) (y 1) (y 2) = eRow X T kc j h y
    rfl

/-- What one trip over a block touches, `k` blocks done: the accumulator is the sum of those blocks. -/
abbrev Block (c : Dev nD) (arg1 : Memref sig .tc .smem S4608 .i32) (arg2 : Memref sig .tc .vmem S256x4608 .bf16) (arg3 : Memref sig .tc .vmem S576x1024 .i32) (arg7 : Memref sig .tc .vmem S288x2x128 .bf16) (arg8 : Memref sig .tc .vmem S2080x2x128 .bf16) (arg9 : Memref sig .tc .vmem S256x1024 .f32)
    (f1 : Buf (Elt F) (arg1.view.loc (c : Thread nD τ))) (f2 : Buf (Elt F) (arg2.view.loc (c : Thread nD τ))) (f3 : Buf (Elt F) (arg3.view.loc (c : Thread nD τ)))
    (f7 : Buf (Elt F) (arg7.view.loc (c : Thread nD τ))) (k : ℕ) : sProp 𝕄 :=
  iprop(tabPt c arg1 f1 ∗ (arg2.view.loc (c : Thread nD τ) ↦[arg2.view.set]{fullShare} f2) ∗ (arg3.view.loc (c : Thread nD τ) ↦[arg3.view.set]{fullShare} f3)
      ∗ (arg7.view.loc (c : Thread nD τ) ↦[arg7.view.set]{fullShare} f7)
      ∗ (∃ f8, arg8.view.loc (c : Thread nD τ) ↦[arg8.view.set]{fullShare} f8)
      ∗ (∃ f9, ⌜arg9.view.read (Elt F) f9 = accAt (arg1.view.read (Elt F) f1) (arg7.view.read (Elt F) f7) (arg2.view.read (Elt F) f2) (arg3.view.read (Elt F) f3) k⌝ ∗ arg9.view.loc (c : Thread nD τ) ↦[arg9.view.set]{fullShare} f9))

set_option maxHeartbeats 4000000 in
/-- One trip over a block: its rows are copied, its weights built and its product added. -/
theorem block_trip (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2080x2x128 .bf16) (harg8 : arg8.IsWhole) (arg9 : Memref sig .tc .vmem S256x1024 .f32) (harg9 : arg9.IsWhole)
    (f1 : Buf (Elt F) (arg1.view.loc (c : Thread nD τ))) (h1 : InRange c arg1 f1)
    (f2 : Buf (Elt F) (arg2.view.loc (c : Thread nD τ))) (f3 : Buf (Elt F) (arg3.view.loc (c : Thread nD τ)))
    (f7 : Buf (Elt F) (arg7.view.loc (c : Thread nD τ))) (k1 : Fin k0_t1_loop.trips) :
    Block c arg1 arg2 arg3 arg7 arg8 arg9 f1 f2 f3 f7 k1.val
    ⊢ wp frame (wpE (defs₀ (F := F)) Variants.none c none) Set.univ (k0_t1_body i arg1 harg1 arg2 harg2 arg3 harg3 arg4 harg4 arg5 harg5 arg6 harg6 arg7 harg7 arg8 harg8 arg9 harg9 k1 ())
      (fun _ => Block c arg1 arg2 arg3 arg7 arg8 arg9 f1 f2 f3 f7 (k1.val + 1)) := by
  unfold k0_t1_body
  iintro ⟨H1, H2, H3, H7, ⟨%f8, H8⟩, ⟨%f9, %hacc, H9⟩⟩
  have hcop : Copied (F := F) (arg1.view.read (Elt F) f1) (arg7.view.read (Elt F) f7) k1.val 0 (arg8.view.read (Elt F) f8) := fun h i j _ hi => absurd hi (by omega)
  sl_exec
  sl_step
  isplitl [H1]; · iexact H1
  isplitl [H2]; · iexact H2
  isplitl [H3]; · iexact H3
  isplitl [H7]; · iexact H7
  isplitl [H8]; · iexists _; iexact H8
  iexists _; isplitr; swap; · iexact H9
  ipureintro
  have hn : Scf.trips k0_t2_loop.lb k0_t2_loop.ub k0_t2_loop.st = 128 := by decide
  have eW : ∀ (off : Fin 2 → ℕ) (j : ℕ) (inb), off = ![32 * k1.val, 128 * j] →
      arg3.view.readAt (Elt F) (Rect.unit (s := S576x1024) off S32x128.size inb).toLoadRect f3 = wordsW (arg3.view.read (Elt F) f3) k1.val j :=
    fun off j inb h => words_eq _ _ off k1.val j inb h
  have eE : ∀ (j h o : ℕ) (inb), j < 8 → h < 2 → o = j * 260 + h * 128 →
      arg8.view.readAt (Elt F) (Rect.unit (s := S2080x2x128) ![o, 0, 0] S128x2x128.size inb).toLoadRect f8L0
        = eRow (arg1.view.read (Elt F) f1) (arg7.view.read (Elt F) f7) k1.val j h :=
    fun j h o inb hj hh ho => e_eq _ _ _ _ _ _ j h o inb hL2 hn hj hh ho
  have col : ∀ (off : Fin 2 → ℕ) (j o o' : ℕ) (inb inb' inb''), j < 8 → off = ![32 * k1.val, 128 * j] → o = j * 260 + 0 * 128 → o' = j * 260 + 1 * 128 →
      k0_pay5 (arg3.view.readAt (Elt F) (Rect.unit (s := S576x1024) off S32x128.size inb).toLoadRect f3)
        (arg8.view.readAt (Elt F) (Rect.unit (s := S2080x2x128) ![o, 0, 0] S128x2x128.size inb').toLoadRect f8L0)
        (arg8.view.readAt (Elt F) (Rect.unit (s := S2080x2x128) ![o', 0, 0] S128x2x128.size inb'').toLoadRect f8L0)
      = colW (arg1.view.read (Elt F) f1) (arg7.view.read (Elt F) f7) (arg3.view.read (Elt F) f3) k1.val j :=
    fun off j o o' inb inb' inb'' hj hoff ho ho' => by
      rw [eW off j inb hoff, eE j 0 o inb' hj (by decide) ho, eE j 1 o' inb'' hj (by decide) ho']; rfl
  have eX := x_eq arg2.view f2 (k0_off15 k1) k1.val (k0_off15_inb k1) (k0_off15_eq k1)
  refine (View.read_writes_full _ _ _ _ _).trans ?_
  show _ = stepW _ _ _ _ _ _ _ _ _ _
  rw [← hacc, ← eX, ← View.readAt_full arg9.view f9 inb_S256x1024_S256x1024_0_0]
  rw [← col (k0_off7 k1) 0 0 128 (k0_off7_inb k1) (inb_S2080x2x128_S128x2x128_0_0_0) (inb_S2080x2x128_S128x2x128_128_0_0) (by decide) (k0_off7_eq k1) rfl rfl]
  rw [← col (k0_off8 k1) 1 260 388 (k0_off8_inb k1) (inb_S2080x2x128_S128x2x128_260_0_0) (inb_S2080x2x128_S128x2x128_388_0_0) (by decide) (k0_off8_eq k1) rfl rfl]
  rw [← col (k0_off9 k1) 2 520 648 (k0_off9_inb k1) (inb_S2080x2x128_S128x2x128_520_0_0) (inb_S2080x2x128_S128x2x128_648_0_0) (by decide) (k0_off9_eq k1) rfl rfl]
  rw [← col (k0_off10 k1) 3 780 908 (k0_off10_inb k1) (inb_S2080x2x128_S128x2x128_780_0_0) (inb_S2080x2x128_S128x2x128_908_0_0) (by decide) (k0_off10_eq k1) rfl rfl]
  rw [← col (k0_off11 k1) 4 1040 1168 (k0_off11_inb k1) (inb_S2080x2x128_S128x2x128_1040_0_0) (inb_S2080x2x128_S128x2x128_1168_0_0) (by decide) (k0_off11_eq k1) rfl rfl]
  rw [← col (k0_off12 k1) 5 1300 1428 (k0_off12_inb k1) (inb_S2080x2x128_S128x2x128_1300_0_0) (inb_S2080x2x128_S128x2x128_1428_0_0) (by decide) (k0_off12_eq k1) rfl rfl]
  rw [← col (k0_off13 k1) 6 1560 1688 (k0_off13_inb k1) (inb_S2080x2x128_S128x2x128_1560_0_0) (inb_S2080x2x128_S128x2x128_1688_0_0) (by decide) (k0_off13_eq k1) rfl rfl]
  rw [← col (k0_off14 k1) 7 1820 1948 (k0_off14_inb k1) (inb_S2080x2x128_S128x2x128_1820_0_0) (inb_S2080x2x128_S128x2x128_1948_0_0) (by decide) (k0_off14_eq k1) rfl rfl]
  rfl

/-- The invariant over the blocks. -/
@[sl_loop] noncomputable def loopInv_k0_t1 (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2080x2x128 .bf16) (harg8 : arg8.IsWhole) (arg9 : Memref sig .tc .vmem S256x1024 .f32) (harg9 : arg9.IsWhole)
    (f1 : Buf (Elt F) (arg1.view.loc (c : Thread nD τ))) (h1 : InRange c arg1 f1)
    (f2 : Buf (Elt F) (arg2.view.loc (c : Thread nD τ))) (f3 : Buf (Elt F) (arg3.view.loc (c : Thread nD τ)))
    (f7 : Buf (Elt F) (arg7.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 where
  inv := fun k _ => Block c arg1 arg2 arg3 arg7 arg8 arg9 f1 f2 f3 f7 k
  step := fun k acc => block_trip c i arg1 harg1 arg2 harg2 arg3 harg3 arg4 harg4 arg5 harg5 arg6 harg6 arg7 harg7 arg8 harg8 arg9 harg9 f1 h1 f2 f3 f7 k

end Cert.KernelIdeal.Hand

end
-- ==== Proof.ITable.lean ====
module

public import proofs.«01_k».proof.Proof.Gen.KernelIdeal.Loops
public import proofs.«01_k».proof.Proof.Gen.KernelIdeal.Launch
public import Idealize.ShloMosaic.Lib.Tactic
public import Idealize.ShloMosaic.Lib.Ring
public import Idealize.ShloMosaic.Lib.WordCmp
public import Idealize.ShloMosaic.Lib.Pointwise
public import Idealize.ShloMosaic.Lib.Bf16Pair
public import Idealize.ShloMosaic.Lib.VecWindow
public import Idealize.ShloMosaic.Lib.Pipeline.Value
public import proofs.«01_k».proof.Proof.IBlock

@[expose] public section

set_option warn.classDefReducibility false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pairs one store of the table writes: columns `n … n + 127` of the zero points beside those of the scales. -/
def packJ (n : ℕ) (hs : S18x1024.Slices ![0, n] S18x128) (lo hi : FVec F S18x1024 .bf16) : Vec F S18x2x128 .bf16 :=
  interleaveRows S18x2x128 (shapeCast S18x1x128 (extractStridedSlice S18x128 ![0, n] lo hs) shapeCasts_S18x128_S18x1x128)
    (shapeCast S18x1x128 (extractStridedSlice S18x128 ![0, n] hi hs) shapeCasts_S18x128_S18x1x128) bitcasts_S18x2x128_w16_S18x1x128_w32

/-- A row of eighteen and a column of 1024, as an index. -/
def at18 (r c : ℕ) : S18x1024.Idx := fun a => match a with
  | 0 => ⟨r % 18, Nat.mod_lt _ (by decide)⟩ | 1 => ⟨c % 1024, Nat.mod_lt _ (by decide)⟩

/-- Row `r`, half `p`, lane `l` of the table: group `r / 8`'s zero point (`p = 0`) or scale (`p = 1`) at column
    `128·(r % 8) + l`; the first eighteen groups from `lo`, `hi`, the others from `lo'`, `hi'`. -/
def tableOf (lo hi lo' hi' : FVec F S18x1024 .bf16) : Vec F S288x2x128 .bf16 := fun z =>
  (if (z 1).val = 0 then (if (z 0).val < 144 then lo else lo') else (if (z 0).val < 144 then hi else hi'))
    (at18 ((z 0).val / 8) (128 * ((z 0).val % 8) + (z 2).val))

/-- A stored pair, element by element. -/
theorem packJ_apply (n : ℕ) (hs : S18x1024.Slices ![0, n] S18x128) (hn : n + 128 ≤ 1024) (lo hi : FVec F S18x1024 .bf16) (x : S18x2x128.Idx) :
    packJ n hs lo hi x = (if (x 1).val = 0 then lo else hi) (at18 (x 0).val (n + (x 2).val)) := by
  have x0 : (x 0).val < 18 := (x 0).isLt
  have x1 : (x 1).val < 2 := (x 1).isLt
  have x2 : (x 2).val < 128 := (x 2).isLt
  have key : ∀ (u : FVec F S18x1024 .bf16) (y : S18x1x128.Idx), (y 0).val = (x 0).val → (y 2).val = (x 2).val →
      shapeCast S18x1x128 (extractStridedSlice S18x128 ![0, n] u hs) shapeCasts_S18x128_S18x1x128 y = u (at18 (x 0).val (n + (x 2).val)) := by
    intro u y h0 h2
    simp only [pointwise]
    refine congrArg u (funext fun a => Fin.ext ?_)
    match a with
    | ⟨0, _⟩ => simp [at18]; omega
    | ⟨1, _⟩ => simp [at18]; omega
  unfold packJ
  rw [interleaveRows_apply]
  have hr : S18x2x128.row x = (x 1).val := rfl
  rw [hr]
  by_cases h : (x 1).val = 0
  · rw [if_pos (by omega), if_pos h]; exact key lo _ rfl rfl
  · rw [if_neg (by omega), if_neg h]; exact key hi _ rfl rfl

/-- A store's piece is the table's, for the first eighteen groups. -/
theorem piece_lo (j n : ℕ) (inb) (pos) (hs) (hj : j < 8) (hn : n = 128 * j) (lo hi lo' hi' : FVec F S18x1024 .bf16) (x : S18x2x128.Idx) :
    packJ n hs lo hi x = tableOf lo hi lo' hi' ((⟨⟨![j, 0, 0], S18x2x128.size, ![8, 1, 1], inb⟩, pos⟩ : Rect S288x2x128).emb x) := by
  have x0 : (x 0).val < 18 := (x 0).isLt
  rw [packJ_apply n hs (by omega)]
  unfold tableOf
  have e0 : ((((⟨⟨![j, 0, 0], S18x2x128.size, ![8, 1, 1], inb⟩, pos⟩ : Rect S288x2x128).emb x) 0).val : ℕ) = j + 8 * (x 0).val := rfl
  have e1 : ((((⟨⟨![j, 0, 0], S18x2x128.size, ![8, 1, 1], inb⟩, pos⟩ : Rect S288x2x128).emb x) 1).val : ℕ) = (x 1).val := by show 0 + 1 * _ = _; omega
  have e2 : ((((⟨⟨![j, 0, 0], S18x2x128.size, ![8, 1, 1], inb⟩, pos⟩ : Rect S288x2x128).emb x) 2).val : ℕ) = (x 2).val := by show 0 + 1 * _ = _; omega
  rw [e0, e1, e2, if_pos (show j + 8 * (x 0).val < 144 by omega), if_pos (show j + 8 * (x 0).val < 144 by omega),
    show (j + 8 * (x 0).val) / 8 = (x 0).val by omega, show (j + 8 * (x 0).val) % 8 = j by omega, hn]

/-- A store's piece is the table's, for the other eighteen groups. -/
theorem piece_hi (j n o : ℕ) (inb) (pos) (hs) (hj : j < 8) (hn : n = 128 * j) (ho : o = 144 + j) (lo hi lo' hi' : FVec F S18x1024 .bf16) (x : S18x2x128.Idx) :
    packJ n hs lo' hi' x = tableOf lo hi lo' hi' ((⟨⟨![o, 0, 0], S18x2x128.size, ![8, 1, 1], inb⟩, pos⟩ : Rect S288x2x128).emb x) := by
  have x0 : (x 0).val < 18 := (x 0).isLt
  rw [packJ_apply n hs (by omega)]
  unfold tableOf
  have e0 : ((((⟨⟨![o, 0, 0], S18x2x128.size, ![8, 1, 1], inb⟩, pos⟩ : Rect S288x2x128).emb x) 0).val : ℕ) = o + 8 * (x 0).val := rfl
  have e1 : ((((⟨⟨![o, 0, 0], S18x2x128.size, ![8, 1, 1], inb⟩, pos⟩ : Rect S288x2x128).emb x) 1).val : ℕ) = (x 1).val := by show 0 + 1 * _ = _; omega
  have e2 : ((((⟨⟨![o, 0, 0], S18x2x128.size, ![8, 1, 1], inb⟩, pos⟩ : Rect S288x2x128).emb x) 2).val : ℕ) = (x 2).val := by show 0 + 1 * _ = _; omega
  have ea : ∀ c, at18 (18 + (x 0).val) c = at18 (x 0).val c := fun c => funext fun a => Fin.ext (by
    match a with
    | ⟨0, _⟩ => simp [at18]
    | ⟨1, _⟩ => rfl)
  rw [e0, e1, e2, if_neg (show ¬ o + 8 * (x 0).val < 144 by omega), if_neg (show ¬ o + 8 * (x 0).val < 144 by omega),
    show (o + 8 * (x 0).val) / 8 = 18 + (x 0).val by omega, show (o + 8 * (x 0).val) % 8 = j by omega, hn, ea]

/-- The rows a strided store from row `o` writes. -/
theorem hit (o : ℕ) (inb) (pos) (z : S288x2x128.Idx) (y : ℕ) (hy : y < 18) (h : (z 0).val = o + 8 * y) :
    z ∈ (⟨⟨![o, 0, 0], S18x2x128.size, ![8, 1, 1], inb⟩, pos⟩ : Rect S288x2x128).set := by
  let x : S18x2x128.Idx := fun a => match a with | 0 => ⟨y, hy⟩ | 1 => z 1 | 2 => z 2
  have e : z = (⟨⟨![o, 0, 0], S18x2x128.size, ![8, 1, 1], inb⟩, pos⟩ : Rect S288x2x128).emb x := by
    funext a; refine Fin.ext ?_
    match a with
    | ⟨0, _⟩ => exact h
    | ⟨1, _⟩ => show (z 1).val = 0 + 1 * (z 1).val; omega
    | ⟨2, _⟩ => show (z 2).val = 0 + 1 * (z 2).val; omega
  rw [e, ← Rect.map_emb_univ]
  exact Finset.mem_map_of_mem _ (Finset.mem_univ _)

/-- The sixteen stores of the table, the last first. -/
def stores (lo hi lo' hi' : FVec F S18x1024 .bf16) : List (View.Piece (Elt F) S288x2x128 .bf16) :=
  [⟨⟨⟨![151, 0, 0], S18x2x128.size, ![8, 1, 1], inb_S288x2x128_S18x2x128_151_0_0_s_8_1_1⟩, spos_8_1_1⟩, packJ 896 slices_S18x1024_o0_896_S18x128 lo' hi'⟩,
    ⟨⟨⟨![150, 0, 0], S18x2x128.size, ![8, 1, 1], inb_S288x2x128_S18x2x128_150_0_0_s_8_1_1⟩, spos_8_1_1⟩, packJ 768 slices_S18x1024_o0_768_S18x128 lo' hi'⟩,
    ⟨⟨⟨![149, 0, 0], S18x2x128.size, ![8, 1, 1], inb_S288x2x128_S18x2x128_149_0_0_s_8_1_1⟩, spos_8_1_1⟩, packJ 640 slices_S18x1024_o0_640_S18x128 lo' hi'⟩,
    ⟨⟨⟨![148, 0, 0], S18x2x128.size, ![8, 1, 1], inb_S288x2x128_S18x2x128_148_0_0_s_8_1_1⟩, spos_8_1_1⟩, packJ 512 slices_S18x1024_o0_512_S18x128 lo' hi'⟩,
    ⟨⟨⟨![147, 0, 0], S18x2x128.size, ![8, 1, 1], inb_S288x2x128_S18x2x128_147_0_0_s_8_1_1⟩, spos_8_1_1⟩, packJ 384 slices_S18x1024_o0_384_S18x128 lo' hi'⟩,
    ⟨⟨⟨![146, 0, 0], S18x2x128.size, ![8, 1, 1], inb_S288x2x128_S18x2x128_146_0_0_s_8_1_1⟩, spos_8_1_1⟩, packJ 256 slices_S18x1024_o0_256_S18x128 lo' hi'⟩,
    ⟨⟨⟨![145, 0, 0], S18x2x128.size, ![8, 1, 1], inb_S288x2x128_S18x2x128_145_0_0_s_8_1_1⟩, spos_8_1_1⟩, packJ 128 slices_S18x1024_o0_128_S18x128 lo' hi'⟩,
    ⟨⟨⟨![144, 0, 0], S18x2x128.size, ![8, 1, 1], inb_S288x2x128_S18x2x128_144_0_0_s_8_1_1⟩, spos_8_1_1⟩, packJ 0 slices_S18x1024_o0_0_S18x128 lo' hi'⟩,
    ⟨⟨⟨![7, 0, 0], S18x2x128.size, ![8, 1, 1], inb_S288x2x128_S18x2x128_7_0_0_s_8_1_1⟩, spos_8_1_1⟩, packJ 896 slices_S18x1024_o0_896_S18x128 lo hi⟩,
    ⟨⟨⟨![6, 0, 0], S18x2x128.size, ![8, 1, 1], inb_S288x2x128_S18x2x128_6_0_0_s_8_1_1⟩, spos_8_1_1⟩, packJ 768 slices_S18x1024_o0_768_S18x128 lo hi⟩,
    ⟨⟨⟨![5, 0, 0], S18x2x128.size, ![8, 1, 1], inb_S288x2x128_S18x2x128_5_0_0_s_8_1_1⟩, spos_8_1_1⟩, packJ 640 slices_S18x1024_o0_640_S18x128 lo hi⟩,
    ⟨⟨⟨![4, 0, 0], S18x2x128.size, ![8, 1, 1], inb_S288x2x128_S18x2x128_4_0_0_s_8_1_1⟩, spos_8_1_1⟩, packJ 512 slices_S18x1024_o0_512_S18x128 lo hi⟩,
    ⟨⟨⟨![3, 0, 0], S18x2x128.size, ![8, 1, 1], inb_S288x2x128_S18x2x128_3_0_0_s_8_1_1⟩, spos_8_1_1⟩, packJ 384 slices_S18x1024_o0_384_S18x128 lo hi⟩,
    ⟨⟨⟨![2, 0, 0], S18x2x128.size, ![8, 1, 1], inb_S288x2x128_S18x2x128_2_0_0_s_8_1_1⟩, spos_8_1_1⟩, packJ 256 slices_S18x1024_o0_256_S18x128 lo hi⟩,
    ⟨⟨⟨![1, 0, 0], S18x2x128.size, ![8, 1, 1], inb_S288x2x128_S18x2x128_1_0_0_s_8_1_1⟩, spos_8_1_1⟩, packJ 128 slices_S18x1024_o0_128_S18x128 lo hi⟩,
    ⟨⟨⟨![0, 0, 0], S18x2x128.size, ![8, 1, 1], inb_S288x2x128_S18x2x128_0_0_0_s_8_1_1⟩, spos_8_1_1⟩, packJ 0 slices_S18x1024_o0_0_S18x128 lo hi⟩]

/-- The sixteen stores fill the table. -/
theorem read_stores (v : View sig .tc .vmem S288x2x128 .bf16) (f : v.ty.Contents (Elt F)) (lo hi lo' hi' : FVec F S18x1024 .bf16) :
    v.read (Elt F) (v.writes (Elt F) f (stores lo hi lo' hi')) = tableOf lo hi lo' hi' := by
  have hcov : ∀ z, ∃ p ∈ stores lo hi lo' hi', z ∈ p.1.set := by
    intro z
    have lt : ∀ k, k < 16 → k < (stores lo hi lo' hi').length := fun k h => h
    have z0 : (z 0).val < 288 := (z 0).isLt
    have hj : (z 0).val % 8 < 8 := Nat.mod_lt _ (by decide)
    by_cases hb : (z 0).val < 144
    · generalize e : (z 0).val % 8 = j at hj
      interval_cases j
      · exact ⟨(stores lo hi lo' hi')[15]'(lt _ (by decide)), List.getElem_mem (lt _ (by decide)), hit 0 _ _ z ((z 0).val / 8) (by omega) (by omega)⟩
      · exact ⟨(stores lo hi lo' hi')[14]'(lt _ (by decide)), List.getElem_mem (lt _ (by decide)), hit 1 _ _ z ((z 0).val / 8) (by omega) (by omega)⟩
      · exact ⟨(stores lo hi lo' hi')[13]'(lt _ (by decide)), List.getElem_mem (lt _ (by decide)), hit 2 _ _ z ((z 0).val / 8) (by omega) (by omega)⟩
      · exact ⟨(stores lo hi lo' hi')[12]'(lt _ (by decide)), List.getElem_mem (lt _ (by decide)), hit 3 _ _ z ((z 0).val / 8) (by omega) (by omega)⟩
      · exact ⟨(stores lo hi lo' hi')[11]'(lt _ (by decide)), List.getElem_mem (lt _ (by decide)), hit 4 _ _ z ((z 0).val / 8) (by omega) (by omega)⟩
      · exact ⟨(stores lo hi lo' hi')[10]'(lt _ (by decide)), List.getElem_mem (lt _ (by decide)), hit 5 _ _ z ((z 0).val / 8) (by omega) (by omega)⟩
      · exact ⟨(stores lo hi lo' hi')[9]'(lt _ (by decide)), List.getElem_mem (lt _ (by decide)), hit 6 _ _ z ((z 0).val / 8) (by omega) (by omega)⟩
      · exact ⟨(stores lo hi lo' hi')[8]'(lt _ (by decide)), List.getElem_mem (lt _ (by decide)), hit 7 _ _ z ((z 0).val / 8) (by omega) (by omega)⟩
    · generalize e : (z 0).val % 8 = j at hj
      interval_cases j
      · exact ⟨(stores lo hi lo' hi')[7]'(lt _ (by decide)), List.getElem_mem (lt _ (by decide)), hit 144 _ _ z ((z 0).val / 8 - 18) (by omega) (by omega)⟩
      · exact ⟨(stores lo hi lo' hi')[6]'(lt _ (by decide)), List.getElem_mem (lt _ (by decide)), hit 145 _ _ z ((z 0).val / 8 - 18) (by omega) (by omega)⟩
      · exact ⟨(stores lo hi lo' hi')[5]'(lt _ (by decide)), List.getElem_mem (lt _ (by decide)), hit 146 _ _ z ((z 0).val / 8 - 18) (by omega) (by omega)⟩
      · exact ⟨(stores lo hi lo' hi')[4]'(lt _ (by decide)), List.getElem_mem (lt _ (by decide)), hit 147 _ _ z ((z 0).val / 8 - 18) (by omega) (by omega)⟩
      · exact ⟨(stores lo hi lo' hi')[3]'(lt _ (by decide)), List.getElem_mem (lt _ (by decide)), hit 148 _ _ z ((z 0).val / 8 - 18) (by omega) (by omega)⟩
      · exact ⟨(stores lo hi lo' hi')[2]'(lt _ (by decide)), List.getElem_mem (lt _ (by decide)), hit 149 _ _ z ((z 0).val / 8 - 18) (by omega) (by omega)⟩
      · exact ⟨(stores lo hi lo' hi')[1]'(lt _ (by decide)), List.getElem_mem (lt _ (by decide)), hit 150 _ _ z ((z 0).val / 8 - 18) (by omega) (by omega)⟩
      · exact ⟨(stores lo hi lo' hi')[0]'(lt _ (by decide)), List.getElem_mem (lt _ (by decide)), hit 151 _ _ z ((z 0).val / 8 - 18) (by omega) (by omega)⟩
  rw [View.read_writes_eq_canon _ _ _ hcov]
  funext z
  refine View.canon_apply_of_pieces _ _ (fun p hp x => ?_) z (hcov z)
  simp only [stores, List.mem_cons, List.not_mem_nil, or_false] at hp
  rcases hp with rfl | rfl | rfl | rfl | rfl | rfl | rfl | rfl | rfl | rfl | rfl | rfl | rfl | rfl | rfl | rfl
  · exact piece_hi 7 _ 151 _ _ _ (by decide) rfl rfl lo hi lo' hi' x
  · exact piece_hi 6 _ 150 _ _ _ (by decide) rfl rfl lo hi lo' hi' x
  · exact piece_hi 5 _ 149 _ _ _ (by decide) rfl rfl lo hi lo' hi' x
  · exact piece_hi 4 _ 148 _ _ _ (by decide) rfl rfl lo hi lo' hi' x
  · exact piece_hi 3 _ 147 _ _ _ (by decide) rfl rfl lo hi lo' hi' x
  · exact piece_hi 2 _ 146 _ _ _ (by decide) rfl rfl lo hi lo' hi' x
  · exact piece_hi 1 _ 145 _ _ _ (by decide) rfl rfl lo hi lo' hi' x
  · exact piece_hi 0 _ 144 _ _ _ (by decide) rfl rfl lo hi lo' hi' x
  · exact piece_lo 7 _ _ _ _ (by decide) rfl lo hi lo' hi' x
  · exact piece_lo 6 _ _ _ _ (by decide) rfl lo hi lo' hi' x
  · exact piece_lo 5 _ _ _ _ (by decide) rfl lo hi lo' hi' x
  · exact piece_lo 4 _ _ _ _ (by decide) rfl lo hi lo' hi' x
  · exact piece_lo 3 _ _ _ _ (by decide) rfl lo hi lo' hi' x
  · exact piece_lo 2 _ _ _ _ (by decide) rfl lo hi lo' hi' x
  · exact piece_lo 1 _ _ _ _ (by decide) rfl lo hi lo' hi' x
  · exact piece_lo 0 _ _ _ _ (by decide) rfl lo hi lo' hi' x

end Cert.KernelIdeal.Hand

end
-- ==== Proof.IBody.lean ====
module

public import proofs.«01_k».proof.Proof.Gen.KernelIdeal.Loops
public import proofs.«01_k».proof.Proof.Gen.KernelIdeal.Launch
public import Idealize.ShloMosaic.Lib.Tactic
public import Idealize.ShloMosaic.Lib.Ring
public import Idealize.ShloMosaic.Lib.WordCmp
public import Idealize.ShloMosaic.Lib.Pointwise
public import Idealize.ShloMosaic.Lib.Bf16Pair
public import proofs.«01_k».proof.Proof.ITable

@[expose] public section

set_option warn.classDefReducibility false
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Eighteen rows of the scales from row `o`. -/
def rowsFrom (S : Vec F S36x1024 .bf16) (o : ℕ) : Vec F S18x1024 .bf16 := fun y => S (fun a => match a with
  | 0 => ⟨(o + (y 0).val) % 36, Nat.mod_lt _ (by decide)⟩ | 1 => y 1)

/-- The table a point builds from its blocks of the scales and the zero points. -/
def tblOf (S : Vec F S36x1024 .bf16) (Z : Vec F S18x1024 .i8) : Vec F S288x2x128 .bf16 :=
  tableOf (k0_pay24 Z) (k0_pay25 (rowsFrom S 0)) (k0_pay37 (k0_pay23 (F := F) Z) 4#32) (k0_pay38 (rowsFrom S 18))

/-- The tile of the result a point writes, from its blocks of the activations, words, scales and zero points and the group table. -/
def outTile (A : Vec F S256x4608 .bf16) (W : Vec F S576x1024 .i32) (S : Vec F S36x1024 .bf16) (Z : Vec F S18x1024 .i8) (X : Vec F S4608 .i32) : Vec F S256x1024 .bf16 :=
  k0_pay2 (accAt X (tblOf S Z) A W 18)

/-- The load of eighteen rows of the scales. -/
theorem rows_from_eq (v : View sig .tc .vmem S36x1024 .bf16) (f : v.ty.Contents (Elt F)) (o : ℕ) (inb) :
    v.readAt (Elt F) (Rect.unit (s := S36x1024) ![o, 0] S18x1024.size inb).toLoadRect f = rowsFrom (v.read (Elt F) f) o := by
  have h0 := inb 0
  simp at h0
  funext y
  have y0 : (y 0).val < 18 := (y 0).isLt
  refine congrArg (v.read (Elt F) f) (funext fun a => Fin.ext ?_)
  match a with
  | ⟨0, _⟩ => show o + 1 * (y 0).val = (o + (y 0).val) % 36; rw [Nat.mod_eq_of_lt (by omega)]; omega
  | ⟨1, _⟩ => show 0 + 1 * (y 1).val = (y 1).val; omega

set_option maxHeartbeats 4000000 in
/-- The whole body runs at a point of the grid: the inputs keep their blocks, the output's buffer ends at the point's tile. -/
theorem body_run (c : Dev nD) (i : grid0.Coords) (arg1 : Memref sig .tc .smem S4608 .i32) (harg1 : arg1.IsWhole) (arg2 : Memref sig .tc .vmem S256x4608 .bf16) (harg2 : arg2.IsWhole) (arg3 : Memref sig .tc .vmem S576x1024 .i32) (harg3 : arg3.IsWhole) (arg4 : Memref sig .tc .vmem S36x1024 .bf16) (harg4 : arg4.IsWhole) (arg5 : Memref sig .tc .vmem S18x1024 .i8) (harg5 : arg5.IsWhole) (arg6 : Memref sig .tc .vmem S256x1024 .bf16) (harg6 : arg6.IsWhole) (arg7 : Memref sig .tc .vmem S288x2x128 .bf16) (harg7 : arg7.IsWhole) (arg8 : Memref sig .tc .vmem S2080x2x128 .bf16) (harg8 : arg8.IsWhole) (arg9 : Memref sig .tc .vmem S256x1024 .f32) (harg9 : arg9.IsWhole)
    (x0 : Vec F S256x4608 .bf16) (x1 : Vec F S576x1024 .i32) (x2 : Vec F S36x1024 .bf16) (x3 : Vec F S18x1024 .i8)
    (f1 : Buf (Elt F) (arg1.view.loc (c : Thread nD τ))) (h1 : InRange c arg1 f1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tabPt c arg1 f1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outTile x0 x1 x2 x3 (arg1.view.read (Elt F) f1)) ∗ (∃ d, owns (c : Thread nD τ) arg7 fullShare d) ∗ (∃ d, owns (c : Thread nD τ) arg8 fullShare d) ∗ (∃ d, owns (c : Thread nD τ) arg9 fullShare d) ∗ tabPt c arg1 f1) -∗ K ⟨⟩))
      ⊢ wp frame (wpE (defs₀ (F := F)) Variants.none c none) Set.univ (cc0_int4_linear i arg1 harg1 arg2 harg2 arg3 harg3 arg4 harg4 arg5 harg5 arg6 harg6 arg7 harg7 arg8 harg8 arg9 harg9) K := by
  simp only [cc0_int4_linear_eq_skeleton]; unfold cc0_int4_linear_skel
  unfold owns
  iintro ⟨⟨%g0, %hf0, H0⟩, ⟨%g1, %hf1, H1⟩, ⟨%g2, %hf2, H2⟩, ⟨%g3, %hf3, H3⟩, ⟨%d4, %f4, -, H4⟩, ⟨%ds0, %fs0, -, HS0⟩, ⟨%ds1, %fs1, -, HS1⟩, ⟨%ds2, %fs2, -, HS2⟩, HT0, Hk⟩
  subst hf0; subst hf1; subst hf2; subst hf3
  have hacc0 : arg9.view.read (Elt F) (arg9.view.writes (Elt F) (arg9.view.junk) [⟨Rect.unit ![0, 0] S256x1024.size inb_S256x1024_S256x1024_0_0, k0_pay47⟩])
      = accAt (arg1.view.read (Elt F) f1) (arg7.view.read (Elt F) (arg7.view.writes (Elt F) fs0 (stores
          (k0_pay24 (arg5.view.readAt (Elt F) (Rect.unit (s := S18x1024) ![0, 0] S18x1024.size inb_S18x1024_S18x1024_0_0).toLoadRect g3))
          (k0_pay25 (arg4.view.readAt (Elt F) (Rect.unit (s := S36x1024) ![0, 0] S18x1024.size inb_S36x1024_S18x1024_0_0).toLoadRect g2))
          (k0_pay37 (k0_pay23 (F := F) (arg5.view.readAt (Elt F) (Rect.unit (s := S18x1024) ![0, 0] S18x1024.size inb_S18x1024_S18x1024_0_0).toLoadRect g3)) 4#32)
          (k0_pay38 (arg4.view.readAt (Elt F) (Rect.unit (s := S36x1024) ![18, 0] S18x1024.size inb_S36x1024_S18x1024_18_0).toLoadRect g2)))))
        (arg2.view.read (Elt F) g0) (arg3.view.read (Elt F) g1) 0 := View.read_writes_full _ _ _ _ _
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine (View.read_writes_full _ _ _ _ _).trans ?_
    have hn : Scf.trips k0_t1_loop.lb k0_t1_loop.ub k0_t1_loop.st = 18 := by decide
    refine (congrArg k0_pay2 ((View.readAt_full arg9.view f9L1 inb_S256x1024_S256x1024_0_0).trans hL5)).trans ?_
    rw [hn]
    refine congrArg (fun T => k0_pay2 (accAt (arg1.view.read (Elt F) f1) T (arg2.view.read (Elt F) g0) (arg3.view.read (Elt F) g1) 18)) ?_
    refine (read_stores arg7.view fs0
          (k0_pay24 (arg5.view.readAt (Elt F) (Rect.unit (s := S18x1024) ![0, 0] S18x1024.size inb_S18x1024_S18x1024_0_0).toLoadRect g3))
          (k0_pay25 (arg4.view.readAt (Elt F) (Rect.unit (s := S36x1024) ![0, 0] S18x1024.size inb_S36x1024_S18x1024_0_0).toLoadRect g2))
          (k0_pay37 (k0_pay23 (F := F) (arg5.view.readAt (Elt F) (Rect.unit (s := S18x1024) ![0, 0] S18x1024.size inb_S18x1024_S18x1024_0_0).toLoadRect g3)) 4#32)
          (k0_pay38 (arg4.view.readAt (Elt F) (Rect.unit (s := S36x1024) ![18, 0] S18x1024.size inb_S36x1024_S18x1024_18_0).toLoadRect g2))).trans ?_
    rw [rows_from_eq, rows_from_eq, View.readAt_full]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexact HT0

end Cert.KernelIdeal.Hand

end
-- ==== Proof.IFrame.lean ====
module

public import proofs.«01_k».proof.Proof.Gen.KernelIdeal
public import proofs.«01_k».proof.Proof.Gen.KernelIdeal.Skeleton
public import proofs.«01_k».proof.Proof.IBody
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 18 = 0 :=
  (fun t => Pipeline.Window.fetchOf_const cc0_transform_0 (fun _ _ => rfl) (n := 18) (by decide) t : ∀ t : Fin grid0.N, Pipeline.Window.fetchOf grid0 false cc0_transform_0 t = true ↔ t.val % 18 = 0)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 1 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (result 0 (%1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 1 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_int4_linear (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4608 .i32 := Memref.whole main_arg4
abbrev htbM0_0 : tbM0_0.IsWhole := Memref.isWhole_whole _

/-- The tables' halves the region hands the body (Lib/Pipeline/Frame.lean `ΦT`), table by table: what the body
    obligation hands the run and takes back. -/
theorem PhiT0_eq (c : Dev nD) : (Pipeline.ΦT pre0 (tbl m) c : sProp 𝕄) = iprop(tabPt c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x4608 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S576x1024 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S36x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S18x1024 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S288x2x128 .bf16 := Memref.whole cc0_scratch0
abbrev scM0_1 : Memref sig .tc .vmem S2080x2x128 .bf16 := Memref.whole cc0_scratch1
abbrev scM0_2 : Memref sig .tc .vmem S256x1024 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the output holds after each point -/

/-- What the output's staging buffer holds after the body at point `t`: the tile of the point's blocks. -/
def outsAt0 (hO : Ok m) (c : Dev nD) (t : Fin (cfgM m hO).N) : Vec F S256x1024 .bf16 :=
  outTile (iblk m hO c 0 t) (iblk m hO c 1 t) (iblk m hO c 2 t) (iblk m hO c 3 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hR : ∀ c : Dev nD, InRange c tbM0_0 (tbl m 0)) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  unfold outsAt0
  iintro ⟨⟨⟨⟨HS0, HS1, HS2⟩, Hg⟩, HT0⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ _ _ (iblk m hO c 0 t) (iblk m hO c 1 t) (iblk m hO c 2 t) (iblk m hO c 3 t) (tbl m 0) (hR c) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  iintro ⟨H0, H1, H2, H3, H4, HS0, HS1, HS2, HT0⟩
  isplitl [HS0 HS1 HS2 Hg HT0]
  · isplitl [HS0 HS1 HS2 Hg]
    · isplitl [HS0 HS1 HS2]
      · isplitl [HS0]; · iexact HS0
        isplitl [HS1]; · iexact HS1
        iexact HS2
      iexact Hg
    iexact HT0
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hR : ∀ c : Dev nD, InRange c tbM0_0 (tbl m 0)) (c : Dev nD) : BodyObligation (dats (F := F) m hO 0 c) (defs₀ (F := F)) Variants.none () Set.univ := fun t => by
  rw [bigSep_W0, bigSep_W0, defs₀_row m hO]
  exact triple_restated (sound_body m hO hR c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hR : ∀ c : Dev nD, InRange c tbM0_0 (tbl m 0)) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hR : ∀ c : Dev nD, InRange c tbM0_0 (tbl m 0)) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hR)

/-- `frame` without the counters: the argument arrays end unchanged. -/
theorem unchanged (hO : Ok m) (hR : ∀ c : Dev nD, InRange c tbM0_0 (tbl m 0)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO hR)

/-- The kernel's frame, when the group table's words name groups: every execution ends, the arguments unchanged and every
    semaphore at zero. -/
theorem frame (hO : Ok m) (hR : ∀ c : Dev nD, InRange c tbM0_0 (tbl m 0)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hR) ((θ_run defs _ _).mono (fun _ h => h.2) (run_main_quiescent m ρ hO hR))

end Cert.KernelIdeal.Hand

end
-- ==== Proof.IClaim.lean ====
module

public import proofs.«01_k».proof.Defs
public import proofs.«01_k».proof.Proof.IFrame
public import proofs.«01_k».proof.Proof.Pre

@[expose] public section

set_option maxRecDepth 16384

noncomputable section

namespace Cert.KernelIdeal.Hand

open Cert.KernelIdeal Cert.KernelIdeal.Gen
open Idealize.ShloMosaic Idealize.ShloMosaic.TcCoe

/-- Under the precondition every word the kernel reads of the group table names a group. -/
theorem inRange_of_pre [Cert.Pre_groups_in_range.Facts] (m : (ℓ : Loc nD τ sig) → Buf (Elt Ideal) ℓ) (h : Cert.Pre_KernelIdeal m) (c : Dev nD) :
    InRange c tbM0_0 (tbl m 0) := by
  intro r y
  have e : tbl m 0 = m ((0 : Dev nD).tc.loc main_arg4) := V_main_arg4 m 0
  rw [e]
  exact Cert.Hand.lt_of_pre (h 0) _

/-- The kernel runs to completion and leaves its arguments unchanged, for every group table in range. -/
theorem quiescent [Cert.Pre_groups_in_range.Facts] : Cert.quiescent_KernelIdeal :=
  fun m g h => frame m g trivial (inRange_of_pre m h)

end Cert.KernelIdeal.Hand

end
-- ==== Proof.RClaim.lean ====
module

public import proofs.«01_k».proof.Defs
public import proofs.«01_k».proof.Proof.Gen.ReferenceIdeal.Run
public import Idealize.ShloMosaic.Lib.Bf16PairInverse
public import Idealize.ShloMosaic.Lib.Quiescent

@[expose] public section

set_option maxRecDepth 16384

noncomputable section

open Idealize.ShloMosaic Idealize.SL.Sem

namespace Cert.ReferenceIdeal.Hand

open Cert.ReferenceIdeal Cert.ReferenceIdeal.Gen

/-- The reference runs to completion and leaves its arguments unchanged, on every input: it has no counters, and its run
    leaves each argument's contents. -/
theorem quiescent : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- So in particular on every input whose group table is in range. -/
theorem quiescent_pre [Cert.Pre_groups_in_range.Facts] : Cert.quiescent_ReferenceIdeal_pre_groups_in_range :=
  fun m ρ _ => quiescent m ρ trivial

end Cert.ReferenceIdeal.Hand

namespace Cert.KernelIdeal.Hand

/-- The idealized kernel's rewrites. The table and the row buffer hold packed words, read as pairs of bf16 rows
    (`bufferStatement`); the packs that make a table word from a zero and a scale and a pair from two bf16 values
    (`packStatement`); the loads, stores and reads of words as rows, at each shape (`statement`). -/
theorem preserves : Cert.preserves_Kernel_KernelIdeal :=
  open Cert.KernelIdeal IdealRules.bf16_pair in
  ⟨bufferStatement S288x2x128 S288x1x128, bufferStatement S2080x2x128 S2080x1x128, packStatement S18x1024,
    statement S18x2x128 S18x1x128, statement S8x2x128 S8x1x128, statement S128x2x128 S128x1x128,
    statement S256x128 S128x128, packStatement S128x128⟩

end Cert.KernelIdeal.Hand

end
-- ==== Proof.VSpec.lean ====
module

public import Idealize.ShloMosaic.Lib.Pointwise
public import Idealize.ShloMosaic.PureOps.Ideal

@[expose] public section

set_option maxRecDepth 16384

noncomputable section

namespace Cert.Hand

open Idealize.ShloMosaic

/-- Nibble `k` of a packed word, as a value. -/
def nib (w : BitVec 32) (k : ℕ) : EReal :=
  FloatOps.sitofp (F := Ideal) .bf16 (IntOp.andi (IntOp.shrsi .vector w (BitVec.ofNat 32 (4 * k))) 15#32)

/-- The zero point of group `g` at column `n`: the byte's low nibble in the first half of the groups, its high in the second. -/
def zp {N : ℕ} (Z : (⟨2, ![18, N]⟩ : Shape).Idx → BitVec 8) (g : ℕ) (n : Fin N) : EReal :=
  FloatOps.sitofp (F := Ideal) .bf16 (if g < 18 then IntOp.andi ((Z (ix2 ⟨g % 18, Nat.mod_lt _ (by decide)⟩ n)).setWidth 32) 15#32
    else IntOp.shrsi .vector ((Z (ix2 ⟨g % 18, Nat.mod_lt _ (by decide)⟩ n)).setWidth 32) 4#32)

/-- The weight at row `r`, column `n`: (code − zero point) · scale, the code a nibble of the packed word `r / 8`, the zero point and
    the scale those of the row's group. -/
def wt {N : ℕ} (Q : (⟨2, ![576, N]⟩ : Shape).Idx → BitVec 32) (S : (⟨2, ![36, N]⟩ : Shape).Idx → EReal)
    (Z : (⟨2, ![18, N]⟩ : Shape).Idx → BitVec 8) (X : (⟨1, ![4608]⟩ : Shape).Idx → BitVec 32) (r : Fin 4608) (n : Fin N) : EReal :=
  (nib (Q (ix2 ⟨r.val / 8, by omega⟩ n)) (r.val % 8) - zp Z (X (ix1 r)).toNat n) * S (ix2 ⟨(X (ix1 r)).toNat % 36, Nat.mod_lt _ (by decide)⟩ n)

/-- A row's product with a column's weights, at inner coordinate `r`. -/
def term {N : ℕ} (A : Fin 4608 → EReal) (Q : (⟨2, ![576, N]⟩ : Shape).Idx → BitVec 32) (S : (⟨2, ![36, N]⟩ : Shape).Idx → EReal)
    (Z : (⟨2, ![18, N]⟩ : Shape).Idx → BitVec 8) (X : (⟨1, ![4608]⟩ : Shape).Idx → BitVec 32) (n : Fin N) (r : ℕ) : EReal :=
  A ⟨r % 4608, Nat.mod_lt _ (by decide)⟩ * wt Q S Z X ⟨r % 4608, Nat.mod_lt _ (by decide)⟩ n

/-- A sum over `8·n` coordinates, by their residues: what the reference adds, one residue at a time. -/
theorem sum_residues (f : ℕ → EReal) (n : ℕ) :
    ∑ r ∈ Finset.range (8 * n), f r
      = ((((((((∑ i : Fin n, f (8 * i.val + 0)) + ∑ i : Fin n, f (8 * i.val + 1)) + ∑ i : Fin n, f (8 * i.val + 2)) + ∑ i : Fin n, f (8 * i.val + 3))
        + ∑ i : Fin n, f (8 * i.val + 4)) + ∑ i : Fin n, f (8 * i.val + 5)) + ∑ i : Fin n, f (8 * i.val + 6)) + ∑ i : Fin n, f (8 * i.val + 7)) := by
  have h : ∑ r ∈ Finset.range (8 * n), f r = ∑ i ∈ Finset.range n, ∑ k ∈ Finset.range 8, f (8 * i + k) := by
    induction n with
    | zero => rfl
    | succ n ih => rw [Nat.mul_succ, Finset.sum_range_add, Finset.sum_range_succ _ n, ih]
  rw [h, Finset.sum_comm]
  simp only [Finset.sum_range_succ _ 7, Finset.sum_range_succ _ 6, Finset.sum_range_succ _ 5, Finset.sum_range_succ _ 4, Finset.sum_range_succ _ 3,
    Finset.sum_range_succ _ 2, Finset.sum_range_succ _ 1, Finset.sum_range_succ _ 0, Finset.sum_range_zero, zero_add]
  simp only [Finset.sum_range]

end Cert.Hand

end
-- ==== Proof.VTile.lean ====
module

public import proofs.«01_k».proof.Proof.IBody
public import proofs.«01_k».proof.Proof.VSpec
public import Idealize.ShloMosaic.Lib.Pointwise
public import Idealize.ShloMosaic.Lib.IdealHost
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe
open Cert.Hand

/-- The kernel's shift amount at row `r`: four times the row's place among its word's eight rows. -/
theorem amt : ∀ r : Fin 256, IntOp.muli 4#32 (IntOp.andi (BitVec.ofNat 32 (0 * 256 + r.val)) 7#32) = BitVec.ofNat 32 (4 * (r.val % 8)) := by
  decide

/-- A column block's weight, from its words and its even and odd rows of pairs. -/
theorem pay5_apply (w : Vec Ideal S32x128 .i32) (ev od : Vec Ideal S128x2x128 .bf16) (r : Fin 256) (l : Fin 128) :
    k0_pay5 (F := Ideal) w ev od (ix2 r l)
      = (nib (w (ix2 ⟨r.val / 8, by omega⟩ l)) (r.val % 8) - (if r.val % 2 = 0 then ev else od) (ix3 ⟨r.val / 2, by omega⟩ 0 l))
        * (if r.val % 2 = 0 then ev else od) (ix3 ⟨r.val / 2, by omega⟩ 1 l) := by
  simp only [k0_pay5, pointwise]
  have e := amt r
  rw [nib, ← e]
  by_cases hp : r.val % 2 = 0
  · simp only [if_pos hp]; rfl
  · simp only [if_neg hp]; rfl

/-- One block's step, element by element: the accumulator plus the block's products. -/
theorem stepW_apply (c : ℕ → FVec Ideal S256x128 .bf16) (acc : FVec Ideal S256x1024 .f32) (x : Vec Ideal S256x256 .bf16) (b : Fin 256) (n : Fin 1024) :
    stepW (c 0) (c 1) (c 2) (c 3) (c 4) (c 5) (c 6) (c 7) acc x (ix2 b n)
      = acc (ix2 b n) + ∑ k : Fin 256, x (ix2 b k) * c (n.val / 128) (ix2 k ⟨n.val % 128, Nat.mod_lt _ (by decide)⟩) := by
  have hn := n.isLt
  have key : ∀ (k : Fin 256) (j m : ℕ) (h : m < 128) (hj : n.val = 128 * j + m) (z : S256x128.Idx), (z 0).val = k.val → (z 1).val = m →
      c j z = c (n.val / 128) (ix2 k ⟨n.val % 128, Nat.mod_lt _ (by decide)⟩) := by
    intro k j m h hj z h0 h1
    have ej : n.val / 128 = j := by omega
    rw [ej]
    refine congrArg (c j) (funext fun a => Fin.ext ?_)
    match a with
    | ⟨0, _⟩ => exact h0
    | ⟨1, _⟩ => exact h1.trans (by show m = n.val % 128; omega)
  simp only [stepW, pointwise]
  rw [zero_add]
  refine congrArg (acc (ix2 b n) + ·) (Finset.sum_congr rfl fun k _ => congrArg (x (ix2 b k) * ·) ?_)
  have s : (![256, 128] : Fin 2 → ℕ) 1 = 128 := rfl
  simp only [s]
  split
  · exact key k 0 n.val (by omega) (by omega) _ rfl rfl
  split
  · exact key k 1 (n.val - 128) (by omega) (by omega) _ rfl rfl
  split
  · exact key k 2 (n.val - 128 - 128) (by omega) (by omega) _ rfl rfl
  split
  · exact key k 3 (n.val - 128 - 128 - 128) (by omega) (by omega) _ rfl rfl
  split
  · exact key k 4 (n.val - 128 - 128 - 128 - 128) (by omega) (by omega) _ rfl rfl
  split
  · exact key k 5 (n.val - 128 - 128 - 128 - 128 - 128) (by omega) (by omega) _ rfl rfl
  split
  · exact key k 6 (n.val - 128 - 128 - 128 - 128 - 128 - 128) (by omega) (by omega) _ rfl rfl
  exact key k 7 (n.val - 128 - 128 - 128 - 128 - 128 - 128 - 128) (by omega) (by omega) _ rfl rfl

/-- The table's pair for group `g`, column block `j`, lane `l`. -/
theorem tblOf_apply (S : Vec Ideal S36x1024 .bf16) (Z : Vec Ideal S18x1024 .i8) (g j : ℕ) (hg : g < 36) (l : Fin 128) (n : Fin 1024) (hn : n.val = 128 * j + l.val) :
    tAt (tblOf (F := Ideal) S Z) (g * 8 + j) 0 l = zp Z g n ∧ tAt (tblOf (F := Ideal) S Z) (g * 8 + j) 1 l = S (ix2 ⟨g % 36, Nat.mod_lt _ (by decide)⟩ n) := by
  have hl := l.isLt
  have hn' := n.isLt
  have hj : j < 8 := by omega
  have e1 : (g * 8 + j) % 288 = g * 8 + j := Nat.mod_eq_of_lt (by omega)
  have e2 : (g * 8 + j) / 8 = g := by omega
  have e3 : (g * 8 + j) % 8 = j := by omega
  have ea : at18 ((g * 8 + j) % 288 / 8) (128 * ((g * 8 + j) % 288 % 8) + l.val) = ix2 ⟨g % 18, Nat.mod_lt _ (by decide)⟩ n := by
    funext a; refine Fin.ext ?_
    match a with
    | ⟨0, _⟩ => show (g * 8 + j) % 288 / 8 % 18 = g % 18; rw [e1, e2]
    | ⟨1, _⟩ => show (128 * ((g * 8 + j) % 288 % 8) + l.val) % 1024 = n.val; rw [e1, e3, ← hn]; exact Nat.mod_eq_of_lt hn'
  have lt : ((g * 8 + j) % 288 < 144) = (g < 18) := by rw [e1]; exact propext ⟨fun _ => by omega, fun _ => by omega⟩
  constructor
  · show (if (0 : ℕ) = 0 then (if (g * 8 + j) % 288 < 144 then k0_pay24 Z else k0_pay37 (k0_pay23 (F := Ideal) Z) 4#32)
      else (if (g * 8 + j) % 288 < 144 then k0_pay25 (rowsFrom S 0) else k0_pay38 (rowsFrom S 18))) (at18 _ _) = _
    rw [if_pos rfl, ea, zp]
    simp only [lt]
    split <;> rfl
  · show (if (1 : ℕ) = 0 then (if (g * 8 + j) % 288 < 144 then k0_pay24 Z else k0_pay37 (k0_pay23 (F := Ideal) Z) 4#32)
      else (if (g * 8 + j) % 288 < 144 then k0_pay25 (rowsFrom S 0) else k0_pay38 (rowsFrom S 18))) (at18 _ _) = _
    rw [if_neg (by decide), ea]
    simp only [lt]
    split
    · refine congrArg S (funext fun a => Fin.ext ?_)
      match a with
      | ⟨0, _⟩ => show (0 + g % 18) % 36 = g % 36; omega
      | ⟨1, _⟩ => rfl
    · refine congrArg S (funext fun a => Fin.ext ?_)
      match a with
      | ⟨0, _⟩ => show (18 + g % 18) % 36 = g % 36; omega
      | ⟨1, _⟩ => rfl

/-- The group table's word of row `r`. -/
theorem grp_eq (X : Vec Ideal S4608 .i32) (n : ℕ) (h : n < 4608) : grp X n = BitVec.toNat (X (ix1 ⟨n, h⟩) : BitVec 32) := by
  unfold grp
  refine congrArg (fun i => BitVec.toNat (X i : BitVec 32)) (funext fun a => Fin.ext ?_)
  match a with
  | ⟨0, _⟩ => exact Nat.mod_eq_of_lt h

/-- A column block of a block's weights holds the weights of its rows and columns. -/
theorem colW_apply (X : Vec Ideal S4608 .i32) (W : Vec Ideal S576x1024 .i32) (S : Vec Ideal S36x1024 .bf16) (Z : Vec Ideal S18x1024 .i8)
    (hX : ∀ i, BitVec.toNat (X i : BitVec 32) < 36) (kc j : ℕ) (hk : kc < 18) (i : Fin 256) (l : Fin 128) (n : Fin 1024) (hn : n.val = 128 * j + l.val)
    (r : Fin 4608) (hr : r.val = 256 * kc + i.val) :
    colW X (tblOf (F := Ideal) S Z) W kc j (ix2 i l) = wt W S Z X r n := by
  have hi := i.isLt
  have hl := l.isLt
  have hn' := n.isLt
  have hw : wordsW W kc j (ix2 ⟨i.val / 8, by omega⟩ l) = W (ix2 ⟨r.val / 8, by omega⟩ n) := by
    refine congrArg W (funext fun a => Fin.ext ?_)
    match a with
    | ⟨0, _⟩ => show (32 * kc + i.val / 8) % 576 = r.val / 8; omega
    | ⟨1, _⟩ => show (128 * j + l.val) % 1024 = n.val; omega
  have hp : i.val % 8 = r.val % 8 := by omega
  have he : ∀ p : Fin 2, (if i.val % 2 = 0 then eRow X (tblOf (F := Ideal) S Z) kc j 0 else eRow X (tblOf (F := Ideal) S Z) kc j 1) (ix3 ⟨i.val / 2, by omega⟩ p l)
      = tAt (tblOf (F := Ideal) S Z) (BitVec.toNat (X (ix1 r) : BitVec 32) * 8 + j) p l := by
    intro p
    split
    · show tAt _ (grp X (256 * kc + 2 * (i.val / 2) + 0) * 8 + j) p l = _
      rw [show 256 * kc + 2 * (i.val / 2) + 0 = r.val by omega, grp_eq X r.val r.isLt]
    · show tAt _ (grp X (256 * kc + 2 * (i.val / 2) + 1) * 8 + j) p l = _
      rw [show 256 * kc + 2 * (i.val / 2) + 1 = r.val by omega, grp_eq X r.val r.isLt]
  have ht := tblOf_apply S Z (BitVec.toNat (X (ix1 r) : BitVec 32)) j (hX _) l n hn
  rw [colW, pay5_apply, he, he, hw, hp, ht.1, ht.2]
  rfl

/-- The accumulator after `k` blocks is the sum over their inner coordinates. -/
theorem accAt_apply (X : Vec Ideal S4608 .i32) (A : Vec Ideal S256x4608 .bf16) (W : Vec Ideal S576x1024 .i32) (S : Vec Ideal S36x1024 .bf16) (Z : Vec Ideal S18x1024 .i8)
    (hX : ∀ i, BitVec.toNat (X i : BitVec 32) < 36) (b : Fin 256) (n : Fin 1024) (k : ℕ) (hk : k ≤ 18) :
    accAt X (tblOf (F := Ideal) S Z) A W k (ix2 b n) = ∑ r ∈ Finset.range (256 * k), term (fun r => A (ix2 b r)) W S Z X n r := by
  have hn := n.isLt
  induction k with
  | zero =>
    rw [Nat.mul_zero, Finset.sum_range_zero]
    simp only [accAt, k0_pay47, pointwise]
  | succ k ih =>
    have hs := stepW_apply (fun j => colW X (tblOf (F := Ideal) S Z) W k j) (accAt X (tblOf (F := Ideal) S Z) A W k) (xBlk A k) b n
    refine hs.trans ?_
    rw [ih (by omega), Nat.mul_succ, Finset.sum_range_add]
    refine congrArg (_ + ·) ?_
    rw [Finset.sum_range]
    refine Finset.sum_congr rfl fun i _ => ?_
    have hi := i.isLt
    have hr : (256 * k + i.val) % 4608 = 256 * k + i.val := Nat.mod_eq_of_lt (by omega)
    rw [colW_apply X W S Z hX k (n.val / 128) (by omega) i ⟨n.val % 128, _⟩ n (by show n.val = 128 * (n.val / 128) + n.val % 128; omega)
      ⟨(256 * k + i.val) % 4608, Nat.mod_lt _ (by decide)⟩ hr]
    refine congrArg (· * _) (congrArg A (funext fun a => Fin.ext ?_))
    match a with
    | ⟨0, _⟩ => rfl
    | ⟨1, _⟩ => rfl

/-- A tile of the result, element by element: a row of the activations times a column of the weights. -/
theorem outTile_apply (X : Vec Ideal S4608 .i32) (A : Vec Ideal S256x4608 .bf16) (W : Vec Ideal S576x1024 .i32) (S : Vec Ideal S36x1024 .bf16) (Z : Vec Ideal S18x1024 .i8)
    (hX : ∀ i, BitVec.toNat (X i : BitVec 32) < 36) (b : Fin 256) (n : Fin 1024) :
    outTile (F := Ideal) A W S Z X (ix2 b n) = ∑ r ∈ Finset.range 4608, term (fun r => A (ix2 b r)) W S Z X n r :=
  accAt_apply X A W S Z hX b n 18 (Nat.le_refl _)

end Cert.KernelIdeal.Hand

end
-- ==== Proof.VKernel.lean ====
module

public import proofs.«01_k».proof.Proof.IClaim
public import proofs.«01_k».proof.Proof.VTile
public import Idealize.ShloMosaic.Lib.Pipeline.ValueKit
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (ρ : Dev nD → PrngReg)

/-- No block's place depends on the group table: every table is admissible. -/
theorem ok : Ok m := trivial

/-- A grid point's coordinate is its number: the index maps read it as the column block. -/
theorem coord_eq (t : Fin grid0.N) : (BitVec.ofNat 32 (grid0.coords t 0).val).toNat = t.val := by
  revert t
  decide +kernel

/-- The column of the array under column `n` of block `t`. -/
def colOf (t : Fin grid0.N) (n : Fin 1024) : Fin 18432 :=
  ⟨t.val * 1024 + n.val, by have h : t.val < 18 := lt_of_lt_of_eq t.isLt N_0; omega⟩

/-- The activations' block is the whole array. -/
theorem iblk0_apply (c : Dev nD) (t : Fin (cfgM m (ok m)).N) (b : Fin 256) (r : Fin 4608) :
    iblk m (ok m) c 0 t (ix2 b r) = V m c main_v0 (ix2 b r) := by
  show V m c main_v0 ((((cfgM m (ok m)).win 0).rect t).emb (ix2 b r)) = _
  refine congrArg _ (funext fun a => Fin.ext ?_)
  match a with
  | ⟨0, _⟩ => exact Pipeline.Window.rect_emb_val_of_index_zero ((cfgM m (ok m)).win 0) t (0 : Fin 2) rfl _
  | ⟨1, _⟩ => exact Pipeline.Window.rect_emb_val_of_index_zero ((cfgM m (ok m)).win 0) t (1 : Fin 2) rfl _

/-- A block of packed words is the array's columns from the block's first on. -/
theorem iblk1_apply (c : Dev nD) (t : Fin (cfgM m (ok m)).N) (q : Fin 576) (n : Fin 1024) :
    iblk m (ok m) c 1 t (ix2 q n) = m ((c : Thread nD τ).loc main_arg1) (ix2 q (colOf t n)) := by
  rw [← V_main_arg1 m c]
  show V m c main_arg1 ((((cfgM m (ok m)).win 1).rect t).emb (ix2 q n)) = _
  refine congrArg _ (funext fun a => Fin.ext ?_)
  match a with
  | ⟨0, _⟩ => exact Pipeline.Window.rect_emb_val_of_index_zero ((cfgM m (ok m)).win 1) t (0 : Fin 2) rfl _
  | ⟨1, _⟩ => exact (Pipeline.Window.rect_emb_val ((cfgM m (ok m)).win 1) t _ (1 : Fin 2)).trans (congrArg (· * 1024 + n.val) (coord_eq t))

/-- A block of scales is the array's columns from the block's first on. -/
theorem iblk2_apply (c : Dev nD) (t : Fin (cfgM m (ok m)).N) (q : Fin 36) (n : Fin 1024) :
    iblk m (ok m) c 2 t (ix2 q n) = m ((c : Thread nD τ).loc main_arg2) (ix2 q (colOf t n)) := by
  rw [← V_main_arg2 m c]
  show V m c main_arg2 ((((cfgM m (ok m)).win 2).rect t).emb (ix2 q n)) = _
  refine congrArg _ (funext fun a => Fin.ext ?_)
  match a with
  | ⟨0, _⟩ => exact Pipeline.Window.rect_emb_val_of_index_zero ((cfgM m (ok m)).win 2) t (0 : Fin 2) rfl _
  | ⟨1, _⟩ => exact (Pipeline.Window.rect_emb_val ((cfgM m (ok m)).win 2) t _ (1 : Fin 2)).trans (congrArg (· * 1024 + n.val) (coord_eq t))

/-- A block of zero points is the array's columns from the block's first on. -/
theorem iblk3_apply (c : Dev nD) (t : Fin (cfgM m (ok m)).N) (q : Fin 18) (n : Fin 1024) :
    iblk m (ok m) c 3 t (ix2 q n) = m ((c : Thread nD τ).loc main_arg3) (ix2 q (colOf t n)) := by
  rw [← V_main_arg3 m c]
  show V m c main_arg3 ((((cfgM m (ok m)).win 3).rect t).emb (ix2 q n)) = _
  refine congrArg _ (funext fun a => Fin.ext ?_)
  match a with
  | ⟨0, _⟩ => exact Pipeline.Window.rect_emb_val_of_index_zero ((cfgM m (ok m)).win 3) t (0 : Fin 2) rfl _
  | ⟨1, _⟩ => exact (Pipeline.Window.rect_emb_val ((cfgM m (ok m)).win 3) t _ (1 : Fin 2)).trans (congrArg (· * 1024 + n.val) (coord_eq t))

/-- The region finds the activations with their middle axis of length one dropped. -/
theorem V_main_v0_apply (c : Dev nD) (b : Fin 256) (r : Fin 4608) :
    V m c main_v0 (ix2 b r) = m ((c : Thread nD τ).loc main_arg0) (ix3 b 0 r) := by
  have e : V m c main_v0 = shapeCast S256x4608 (m ((c : Thread nD τ).loc main_arg0)) shapeCasts_S256x1x4608_S256x4608 := by
    show StableHlo.after hostOps0 _ _ = _
    after_results
    rfl
  rw [e]
  simp only [pointwise]

/-- What the result array is shown to hold: each row of the activations times each column of the weights. -/
def result (c : Dev nD) : Vec Ideal S256x18432 .bf16 := fun i => show EReal from
  ∑ r ∈ Finset.range 4608, term (fun r => m ((c : Thread nD τ).loc main_arg0) (ix3 (i 0) 0 r)) (m ((c : Thread nD τ).loc main_arg1))
    (m ((c : Thread nD τ).loc main_arg2)) (m ((c : Thread nD τ).loc main_arg3)) (m ((c : Thread nD τ).loc main_arg4)) (i 1) r

variable [Cert.Pre_groups_in_range.Facts]

/-- The tile a point leaves in its staging buffer is its block of the result. -/
theorem tile_apply (c : Dev nD) (h : Cert.Pre_KernelIdeal m) (t : Fin (cfgM m (ok m)).N) (b : Fin 256) (n : Fin 1024) :
    outsAt0 m (ok m) c t (ix2 b n) = result m c (ix2 b (colOf t n)) := by
  have hg : tbl m 0 = m ((c : Thread nD τ).loc main_arg4) := by
    obtain rfl : c = 0 := Subsingleton.elim _ _
    exact V_main_arg4 m 0
  unfold outsAt0
  rw [hg]
  refine (outTile_apply _ _ _ _ _ (fun i => Cert.Hand.lt_of_pre (h c) i) b n).trans (Finset.sum_congr rfl fun r _ => ?_)
  unfold term wt zp
  simp only [iblk0_apply, iblk1_apply, iblk2_apply, iblk3_apply]
  exact congrArg (fun x : EReal => x * _) (V_main_v0_apply m c b _)

/-- What a point writes back is its block of the result. -/
theorem flushed_eq (c : Dev nD) (h : Cert.Pre_KernelIdeal m) (t : Fin (cfgM m (ok m)).N) :
    (dats m (ok m) 0 c).flushed 4 t = (((cfgM m (ok m)).win 4).blk t).view.read (Elt Ideal) (result m c) := by
  show ((cfgM m (ok m)).win 4).cut (grid0.coords t) ((dats m (ok m) 0 c).after 4 t) = _
  rw [after0_4]
  refine funext fun y : S256x1024.Idx => ?_
  show outsAt0 m (ok m) c t y = result m c ((((cfgM m (ok m)).win 4).rect t).emb y)
  obtain ⟨b, n, rfl⟩ : ∃ (b : Fin 256) (n : Fin 1024), y = ix2 b n := ⟨y 0, y 1, ValueIdx.eq_ix2 y⟩
  rw [tile_apply m c h]
  refine congrArg _ (funext fun a => Fin.ext ?_)
  match a with
  | ⟨0, _⟩ => exact (Pipeline.Window.rect_emb_val_of_index_zero ((cfgM m (ok m)).win 4) t (0 : Fin 2) rfl (ix2 b n)).symm
  | ⟨1, _⟩ => exact ((Pipeline.Window.rect_emb_val ((cfgM m (ok m)).win 4) t (ix2 b n) (1 : Fin 2)).trans (congrArg (· * 1024 + n.val) (coord_eq t))).symm

omit [Cert.Pre_groups_in_range.Facts] in
/-- Every element of the result is in some point's block. -/
theorem cover (i : S256x18432.Idx) :
    ∃ t : Fin (cfgM m (ok m)).N, ((cfgM m (ok m)).win 4).flush t = true ∧ i ∈ (((cfgM m (ok m)).win 4).blk t).view.set := by
  have h0 : (i 0).val < 256 := (i 0).isLt
  have h1 : (i 1).val < 18432 := (i 1).isLt
  have ht : (i 1).val / 1024 < grid0.N := by rw [N_0]; omega
  refine ⟨⟨(i 1).val / 1024, ht⟩, flush0_4 _ _, ?_⟩
  show i ∈ ((View.whole main_v1).slice (((cfgM m (ok m)).win 4).rect ⟨(i 1).val / 1024, ht⟩)).set
  erw [View.set_slice_whole]
  refine (Pipeline.Window.mem_rect_iff ((cfgM m (ok m)).win 4) ⟨(i 1).val / 1024, ht⟩ i (by rfl)).mpr fun a => ?_
  have hc := coord_eq ⟨(i 1).val / 1024, ht⟩
  match a with
  | ⟨0, _⟩ =>
    show 0 * 256 ≤ (i 0).val ∧ (i 0).val < 0 * 256 + 256
    omega
  | ⟨1, _⟩ =>
    show (BitVec.ofNat 32 (grid0.coords ⟨(i 1).val / 1024, ht⟩ 0).val).toNat * 1024 ≤ (i 1).val
      ∧ (i 1).val < (BitVec.ofNat 32 (grid0.coords ⟨(i 1).val / 1024, ht⟩ 0).val).toNat * 1024 + 1024
    rw [hc]
    show (i 1).val / 1024 * 1024 ≤ (i 1).val ∧ (i 1).val < (i 1).val / 1024 * 1024 + 1024
    omega

/-- The result array after the run. -/
theorem final_v1 (c : Dev nD) (h : Cert.Pre_KernelIdeal m) : (dats m (ok m) 0 c).arrAt 4 (cfgM m (ok m)).N = result m c :=
  (dats m (ok m) 0 c).arrAt_eq_of_cover 4 (result m c) (fun t _ => flushed_eq m c h t) (cover m)

/-- The kernel's run, read: the result array holds the product, and the arguments are unchanged. -/
theorem run (h : Cert.Pre_KernelIdeal m) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c => ⟨(hr.1 c).trans (final_v1 m c h), hr.2 c⟩)
    (θ_run_and ((θ_run defs _ _).mono (fun _ hr c => (hr c).1 4) (run_main m ρ (ok m) (inRange_of_pre m h))) (unchanged m ρ (ok m) (inRange_of_pre m h)))

end Cert.KernelIdeal.Hand

end
-- ==== Proof.VRef.lean ====
module

public import proofs.«01_k».proof.Proof.Gen.ReferenceIdeal.Run
public import proofs.«01_k».proof.Proof.VSpec
public import Idealize.ShloMosaic.Lib.Pointwise
public import Idealize.ShloMosaic.Lib.Routing.Ops

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Hand

/-- Row indices as the reference passes them to its gathers: a negative one moved up by the number of groups. -/
def idxOf (g : IVec S576 32) : IVec S576x1 32 :=
  broadcastInDim S576x1 ![0] bcast_S576_S576x1_0 (select (cmpi .slt g (broadcastInDim S576 ![] bcast_S_S576 (constantI S_ 32 0#32)))
    (addi g (broadcastInDim S576 ![] bcast_S_S576 (constantI S_ 32 36#32))) g)

/-- The reference's weights of the rows of one residue, from the words, the zero points, the scales and those rows' groups. -/
def wPart (k4 : BitVec 32) (Q : IVec S576x18432 32) (T : IVec S36x18432 32) (S : FVec Ideal S36x18432 .bf16) (g : IVec S576 32) : FVec Ideal S576x18432 .bf16 :=
  mulf (subf (sitofp .bf16 (andi (Host.shrsi Q (broadcastInDim S576x18432 ![] bcast_S_S576x18432 (constantI S_ 32 k4)))
      (broadcastInDim S576x18432 ![] bcast_S_S576x18432 (constantI S_ 32 15#32))))
    (sitofp .bf16 (Host.gather gather_S36x18432_S576x1_S576x18432_1_0_n_n_0_1_118432 T (idxOf g))))
    (Host.gather gather_S36x18432_S576x1_S576x18432_1_0_n_n_0_1_118432 S (idxOf g))

/-- One residue's product: its columns of the activations times its rows of the weights. -/
def part (k4 : BitVec 32) (A : FVec Ideal S256x1x576 .bf16) (Q : IVec S576x18432 32) (T : IVec S36x18432 32) (S : FVec Ideal S36x18432 .bf16) (g : IVec S576 32) :
    FVec Ideal S256x1x18432 .f32 :=
  Host.dotGeneral dot_S256x1x576_S576x18432_S256x1x18432_2_0_01_1_n_n none A (wPart k4 Q T S g)

/-- A shift by fewer places than the word has is the same on the host as in a kernel. -/
theorem shrsi_host (x y : BitVec 32) (h : y.toNat < 32) : IntOp.shrsi .host x y = IntOp.shrsi .vector x y := by
  unfold IntOp.shrsi
  rw [if_pos h, if_pos h]

/-- A group's number is not negative. -/
theorem slt_zero (x : BitVec 32) (h : x.toNat < 36) : IntOp.cmpi .slt x 0#32 = 0#1 := by
  have e : ∀ k : Fin 36, IntOp.cmpi .slt (BitVec.ofNat 32 k.val) 0#32 = 0#1 := by decide
  have e' := e ⟨x.toNat, h⟩
  rwa [BitVec.ofNat_toNat, BitVec.setWidth_eq] at e'

/-- A row index in range is passed as it is. -/
theorem idxOf_apply (g : IVec S576 32) (i : Fin 576) (h : (g (ix1 i)).toNat < 36) : idxOf g (ix2 i 0) = g (ix1 i) := by
  simp only [idxOf, pointwise]
  show Scalar.select (IntOp.cmpi .slt (g (ix1 i)) 0#32) (IntOp.addi (g (ix1 i)) 36#32) (g (ix1 i)) = _
  rw [slt_zero _ h]
  rfl

/-- A gather of rows reads the row its index names. -/
theorem gather_apply {α : Type} (x : S36x18432.Idx → α) (g : IVec S576 32) (i : Fin 576) (n : Fin 18432) (h : (g (ix1 i)).toNat < 36) :
    Host.gather gather_S36x18432_S576x1_S576x18432_1_0_n_n_0_1_118432 x (idxOf g) (ix2 i n) = x (ix2 ⟨(g (ix1 i)).toNat, h⟩ n) :=
  Routing.gather_row gather_S36x18432_S576x1_S576x18432_1_0_n_n_0_1_118432 rfl rfl rfl rfl rfl x (idxOf g) i n ⟨(g (ix1 i)).toNat, h⟩
    ((idxOf_apply g i h).trans (by show _ = BitVec.ofNat 32 (g (ix1 i)).toNat; rw [BitVec.ofNat_toNat, BitVec.setWidth_eq])) (by decide)

/-- The table of zero points: the low nibbles, then the high ones. -/
theorem zeros_apply (V0 : Valuation τ sig (Elt Ideal)) (g : Fin 36) (n : Fin 18432) :
    FloatOps.sitofp (F := Ideal) .bf16 (res_main_v5 (F := Ideal) V0 (ix2 g n)) = zp (V0 (Proc.devRef .tc main_arg3)) g.val n := by
  have hg := g.isLt
  simp only [res_main_v5, res_main_v0, pointwise]
  rw [zp]
  refine congrArg (FloatOps.sitofp (F := Ideal) .bf16) ?_
  split
  · rename_i h
    refine congrArg (fun i => IntOp.andi (BitVec.setWidth 32 (V0 (Proc.devRef .tc main_arg3) i : BitVec 8)) 15#32) (funext fun a => Fin.ext ?_)
    match a with
    | ⟨0, _⟩ => exact (Nat.mod_eq_of_lt h).symm
    | ⟨1, _⟩ => rfl
  · rename_i h
    rw [shrsi_host _ _ (by decide)]
    refine congrArg (fun i => IntOp.shrsi .vector (BitVec.setWidth 32 (V0 (Proc.devRef .tc main_arg3) i : BitVec 8)) 4#32) (funext fun a => Fin.ext ?_)
    match a with
    | ⟨0, _⟩ => show g.val - 18 = g.val % 18; omega
    | ⟨1, _⟩ => rfl

/-- One residue's product, element by element: the terms of the inner coordinates `8·i + k`. -/
theorem part_apply (k : ℕ) (hk : k < 8) (A : FVec Ideal S256x1x4608 .bf16) (Q : IVec S576x18432 32) (T : IVec S36x18432 32) (S : FVec Ideal S36x18432 .bf16)
    (Z : S18x18432.Idx → BitVec 8) (X : IVec S4608 32) (hX : ∀ i, (X i).toNat < 36)
    (hT : ∀ (g : Fin 36) (n : Fin 18432), FloatOps.sitofp (F := Ideal) .bf16 (T (ix2 g n)) = zp Z g.val n)
    (hA : S256x1x4608.SlicesBy (![0, 0, k] : Fin 3 → Nat) ![1, 1, 8] S256x1x576) (hg : S4608.SlicesBy (![k] : Fin 1 → Nat) ![8] S576)
    (b : Fin 256) (n : Fin 18432) :
    part (BitVec.ofNat 32 (4 * k)) (Host.slice S256x1x576 ![0, 0, k] ![1, 1, 8] A hA) Q T S (Host.slice S576 ![k] ![8] X hg) (ix3 b 0 n)
      = ∑ i : Fin 576, term (fun r => A (ix3 b 0 r)) Q S Z X n (8 * i.val + k) := by
  simp only [part, wPart, pointwise]
  rw [zero_add]
  refine Finset.sum_congr rfl fun i _ => ?_
  have hi := i.isLt
  have hm : (8 * i.val + k) % 4608 = 8 * i.val + k := Nat.mod_eq_of_lt (by omega)
  have eg : Host.slice S576 ![k] ![8] X hg (ix1 i) = X (ix1 ⟨(8 * i.val + k) % 4608, Nat.mod_lt _ (by decide)⟩) := by
    simp only [pointwise]
    refine congrArg X (funext fun a => Fin.ext ?_)
    match a with
    | ⟨0, _⟩ => show k + 8 * i.val = (8 * i.val + k) % 4608; omega
  have hgi : (Host.slice S576 ![k] ![8] X hg (ix1 i)).toNat < 36 := by rw [eg]; exact hX _
  rw [gather_apply T _ i n hgi, gather_apply S _ i n hgi, hT, shrsi_host _ _ (by rw [BitVec.toNat_ofNat]; omega)]
  unfold term wt nib
  have e8 : (8 * i.val + k) % 4608 / 8 = i.val := by omega
  have e8' : (8 * i.val + k) % 4608 % 8 = k := by omega
  refine congrArg₂ (· * ·) (congrArg A (funext fun a => Fin.ext ?_)) (congrArg₂ (· * ·) (congrArg₂ (· - ·) ?_ ?_) (congrArg S (funext fun a => Fin.ext ?_)))
  · match a with
    | ⟨0, _⟩ => show 0 + 1 * b.val = b.val; omega
    | ⟨1, _⟩ => rfl
    | ⟨2, _⟩ => show k + 8 * i.val = (8 * i.val + k) % 4608; omega
  · show _ = FloatOps.sitofp (F := Ideal) .bf16 (IntOp.andi (IntOp.shrsi .vector _ (BitVec.ofNat 32 (4 * ((8 * i.val + k) % 4608 % 8)))) 15#32)
    rw [e8']
    refine congrArg (fun z => FloatOps.sitofp (F := Ideal) .bf16 (IntOp.andi (IntOp.shrsi .vector (Q z) (BitVec.ofNat 32 (4 * k))) 15#32)) (funext fun a => Fin.ext ?_)
    match a with
    | ⟨0, _⟩ => exact e8.symm
    | ⟨1, _⟩ => rfl
  · exact congrArg (fun x : BitVec 32 => zp Z x.toNat n) eg
  · match a with
    | ⟨0, _⟩ => exact (congrArg BitVec.toNat eg).trans (Nat.mod_eq_of_lt (hX _)).symm
    | ⟨1, _⟩ => rfl

/-- The reference's result, element by element. -/
theorem result_apply (V0 : Valuation τ sig (Elt Ideal)) (hX : ∀ i, BitVec.toNat (V0 (Proc.devRef .tc main_arg4) i : BitVec 32) < 36) (b : Fin 256) (n : Fin 18432) :
    shapeCast S256x18432 (truncf (F := Ideal) .bf16 (res_main_v212 (F := Ideal) V0) bitsLt_bf16_f32) shapeCasts_S256x1x18432_S256x18432 (ix2 b n)
      = ∑ r ∈ Finset.range 4608, term (fun r => V0 (Proc.devRef .tc main_arg0) (ix3 b 0 r)) (V0 (Proc.devRef .tc main_arg1)) (V0 (Proc.devRef .tc main_arg2))
          (V0 (Proc.devRef .tc main_arg3)) (V0 (Proc.devRef .tc main_arg4)) n r := by
  have P := fun (k : ℕ) (hk : k < 8) => part_apply k hk (V0 (Proc.devRef .tc main_arg0)) (V0 (Proc.devRef .tc main_arg1)) (res_main_v5 (F := Ideal) V0)
    (V0 (Proc.devRef .tc main_arg2)) (V0 (Proc.devRef .tc main_arg3)) (V0 (Proc.devRef .tc main_arg4)) hX (zeros_apply V0)
  have s := sum_residues (term (fun r => V0 (Proc.devRef .tc main_arg0) (ix3 b 0 r)) (V0 (Proc.devRef .tc main_arg1)) (V0 (Proc.devRef .tc main_arg2))
          (V0 (Proc.devRef .tc main_arg3)) (V0 (Proc.devRef .tc main_arg4)) n) 576
  refine Eq.trans ?_ s.symm
  have h : shapeCast S256x18432 (truncf (F := Ideal) .bf16 (res_main_v212 (F := Ideal) V0) bitsLt_bf16_f32) shapeCasts_S256x1x18432_S256x18432 (ix2 b n)
      = res_main_v212 (F := Ideal) V0 (ix3 b 0 n) := by
    simp only [pointwise]
  rw [h, ← P 0 (by decide) slicesBy_S256x1x4608_S256x1x576_0s1_0s1_0s8 slicesBy_S4608_S576_0s8 b n, ← P 1 (by decide) slicesBy_S256x1x4608_S256x1x576_0s1_0s1_1s8 slicesBy_S4608_S576_1s8 b n,
    ← P 2 (by decide) slicesBy_S256x1x4608_S256x1x576_0s1_0s1_2s8 slicesBy_S4608_S576_2s8 b n, ← P 3 (by decide) slicesBy_S256x1x4608_S256x1x576_0s1_0s1_3s8 slicesBy_S4608_S576_3s8 b n,
    ← P 4 (by decide) slicesBy_S256x1x4608_S256x1x576_0s1_0s1_4s8 slicesBy_S4608_S576_4s8 b n, ← P 5 (by decide) slicesBy_S256x1x4608_S256x1x576_0s1_0s1_5s8 slicesBy_S4608_S576_5s8 b n,
    ← P 6 (by decide) slicesBy_S256x1x4608_S256x1x576_0s1_0s1_6s8 slicesBy_S4608_S576_6s8 b n, ← P 7 (by decide) slicesBy_S256x1x4608_S256x1x576_0s1_0s1_7s8 slicesBy_S4608_S576_7s8 b n]
  rfl

end Cert.ReferenceIdeal.Hand

end
-- ==== Proof.Algebraic.lean ====
module

public import proofs.«01_k».proof.Defs
public import proofs.«01_k».proof.Proof.VKernel
public import proofs.«01_k».proof.Proof.VRef
public import proofs.«01_k».proof.Proof.Gen.ReferenceIdeal.Run

@[expose] public section

set_option maxRecDepth 16384

noncomputable section

open Idealize.ShloMosaic Idealize.SL.Sem

namespace Cert.Hand

/-- The kernel and the reference compute the same product: over the extended reals each element of either result is the sum, over the
    inner coordinates, of an activation times its weight, the kernel's taken block by block and the reference's residue by residue. -/
theorem algebraic [Cert.Pre_groups_in_range.Facts] : Cert.algebraic_KernelIdeal_ReferenceIdeal := by
  intro m g m' g' hpre hargs
  refine ⟨Cert.KernelIdeal.Hand.result m, Cert.KernelIdeal.Hand.run m g hpre, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hargs c
  refine funext fun i : Cert.ReferenceIdeal.S256x18432.Idx => ?_
  obtain ⟨b, n, rfl⟩ : ∃ (b : Fin 256) (n : Fin 18432), i = ix2 b n := ⟨i 0, i 1, ValueIdx.eq_ix2 i⟩
  have hX : ∀ i, BitVec.toNat (m' (c.tc.loc Cert.ReferenceIdeal.main_arg4) i : BitVec 32) < 36 := by
    rw [h4]
    exact fun i => lt_of_pre (hpre c) i
  refine (Cert.ReferenceIdeal.Hand.result_apply (StableHlo.launchContents m' c) hX b n).trans ?_
  show ∑ r ∈ Finset.range 4608, term (fun r => m' (c.tc.loc Cert.ReferenceIdeal.main_arg0) (ix3 b 0 r)) (m' (c.tc.loc Cert.ReferenceIdeal.main_arg1))
    (m' (c.tc.loc Cert.ReferenceIdeal.main_arg2)) (m' (c.tc.loc Cert.ReferenceIdeal.main_arg3)) (m' (c.tc.loc Cert.ReferenceIdeal.main_arg4)) n r = _
  rw [h0, h1, h2, h3, h4]
  rfl

end Cert.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_groups_in_range
public import proofs.«01_k».proof.Proof.KClaim
public import proofs.«01_k».proof.Proof.IClaim
public import proofs.«01_k».proof.Proof.RClaim
public import proofs.«01_k».proof.Proof.Algebraic

@[expose] public section

namespace Cert.Proof

open Idealize.ShloMosaic Idealize.SL.Sem Cert.Kernel

/-- Every claim of the certificate, with the side conditions of the programs. -/
theorem claim : Cert.Claim :=
  haveI := Cert.Kernel.Gen.facts
  haveI := Cert.KernelIdeal.Gen.facts
  haveI := Cert.ReferenceIdeal.Gen.facts
  haveI := Cert.Pre_groups_in_range.Gen.facts
  ⟨Cert.Kernel.Gen.facts, Cert.KernelIdeal.Gen.facts, Cert.ReferenceIdeal.Gen.facts, Cert.Pre_groups_in_range.Gen.facts,
    Cert.Kernel.Hand.quiescent, Cert.KernelIdeal.Hand.quiescent, Cert.ReferenceIdeal.Hand.quiescent,
    Cert.ReferenceIdeal.Hand.quiescent_pre, Cert.KernelIdeal.Hand.preserves, Cert.Hand.algebraic⟩

end Cert.Proof

end
